-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_two_of_four [hPre_two_of_four : Cert.Pre_two_of_four.Facts] (m : (ℓ : Loc Cert.KernelIdeal.nD Cert.KernelIdeal.τ Cert.KernelIdeal.sig) → Buf (Elt Ideal) ℓ) : Prop :=
  ∀ c : Dev Cert.KernelIdeal.nD,
    (Cert.Pre_two_of_four.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_two_of_four [hPre_two_of_four : Cert.Pre_two_of_four.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_two_of_four.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_two_of_four [hKernelIdeal : Cert.KernelIdeal.Facts] [hPre_two_of_four : Cert.Pre_two_of_four.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_two_of_four m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_two_of_four [hReferenceIdeal : Cert.ReferenceIdeal.Facts] [hPre_two_of_four : Cert.Pre_two_of_four.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_two_of_four m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.bf16_pair.Statement Cert.KernelIdeal.S2x512 Cert.KernelIdeal.S1x512
  ∧ IdealRules.bf16_pair.Statement Cert.KernelIdeal.S16x512 Cert.KernelIdeal.S8x512

def algebraic_KernelIdeal_ReferenceIdeal_pre_two_of_four [hKernelIdeal : Cert.KernelIdeal.Facts] [hReferenceIdeal : Cert.ReferenceIdeal.Facts] [hPre_two_of_four : Cert.Pre_two_of_four.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_two_of_four m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_two_of_four : Cert.Pre_two_of_four.Facts),
    quiescent_Kernel (hKernel := hKernel)
    ∧ quiescent_KernelIdeal (hKernelIdeal := hKernelIdeal)
    ∧ quiescent_KernelIdeal_pre_two_of_four (hKernelIdeal := hKernelIdeal) (hPre_two_of_four := hPre_two_of_four)
    ∧ quiescent_ReferenceIdeal (hReferenceIdeal := hReferenceIdeal)
    ∧ quiescent_ReferenceIdeal_pre_two_of_four (hReferenceIdeal := hReferenceIdeal) (hPre_two_of_four := hPre_two_of_four)
    ∧ preserves_Kernel_KernelIdeal
    ∧ algebraic_KernelIdeal_ReferenceIdeal_pre_two_of_four (hKernelIdeal := hKernelIdeal) (hReferenceIdeal := hReferenceIdeal) (hPre_two_of_four := hPre_two_of_four)
-- ==== Pre_two_of_four.lean ====
abbrev S48x1x5120 : Shape := ⟨3, ![48, 1, 5120]⟩
abbrev S1280x14336 : Shape := ⟨2, ![1280, 14336]⟩
abbrev S640x14336 : Shape := ⟨2, ![640, 14336]⟩
abbrev S40x14336 : Shape := ⟨2, ![40, 14336]⟩
abbrev S_ : Shape := ⟨0, ![]⟩

class Facts : Prop where
  natLt_8_32 : 8 < 32
  bcast_S_S640x14336 : S_.BroadcastsInDim S640x14336 (![] : Fin 0 → Fin S640x14336.rank)

variable [Facts]

def fn_part2 {F : FTy → Type} [FloatOps F] (main_v4 : IVec S640x14336 32) (main_v8 : IVec S640x14336 32) (main_v12 : IVec S640x14336 32) (main_v16 : IVec S640x14336 32) (main_v20 : IVec S640x14336 32) (main_v24 : IVec S640x14336 32) (main_v28 : IVec S640x14336 32) (main_v30 : IVec S640x14336 32) (main_v31 : IVec S640x14336 32) : IVec S640x14336 1 :=
  let main_v32 : IVec S640x14336 32 := andi main_v30 main_v31
  let main_v33 : IVec S640x14336 32 := addi main_v4 main_v8
  let main_v34 : IVec S640x14336 32 := addi main_v33 main_v12
  let main_v35 : IVec S640x14336 32 := addi main_v34 main_v16
  let main_v36 : IVec S640x14336 32 := addi main_v20 main_v24
  let main_v37 : IVec S640x14336 32 := addi main_v36 main_v28
  let main_v38 : IVec S640x14336 32 := addi main_v37 main_v32
  let main_c_15 : IVec S_ 32 := constantI S_ 32 2#32
  let main_v39 : IVec S640x14336 32 := broadcastInDim S640x14336 ![] bcast_S_S640x14336 main_c_15
  let main_v40 : IVec S640x14336 1 := cmpi .eq main_v35 main_v39
  let main_c_16 : IVec S_ 32 := constantI S_ 32 2#32
  let main_v41 : IVec S640x14336 32 := broadcastInDim S640x14336 ![] bcast_S_S640x14336 main_c_16
  let main_v42 : IVec S640x14336 1 := cmpi .eq main_v38 main_v41
  let main_v43 : IVec S640x14336 1 := andi main_v40 main_v42
  main_v43

def fn_part1 {F : FTy → Type} [FloatOps F] (main_v0 : IVec S640x14336 32) (main_v4 : IVec S640x14336 32) (main_v8 : IVec S640x14336 32) (main_v12 : IVec S640x14336 32) (main_v14 : IVec S640x14336 32) (main_v15 : IVec S640x14336 32) : IVec S640x14336 1 :=
  let main_v16 : IVec S640x14336 32 := andi main_v14 main_v15
  let main_c_7 : IVec S_ 32 := constantI S_ 32 4#32
  let main_v17 : IVec S640x14336 32 := broadcastInDim S640x14336 ![] bcast_S_S640x14336 main_c_7
  let main_v18 : IVec S640x14336 32 := Host.shrsi main_v0 main_v17
  let main_c_8 : IVec S_ 32 := constantI S_ 32 1#32
  let main_v19 : IVec S640x14336 32 := broadcastInDim S640x14336 ![] bcast_S_S640x14336 main_c_8
  let main_v20 : IVec S640x14336 32 := andi main_v18 main_v19
  let main_c_9 : IVec S_ 32 := constantI S_ 32 5#32
  let main_v21 : IVec S640x14336 32 := broadcastInDim S640x14336 ![] bcast_S_S640x14336 main_c_9
  let main_v22 : IVec S640x14336 32 := Host.shrsi main_v0 main_v21
  let main_c_10 : IVec S_ 32 := constantI S_ 32 1#32
  let main_v23 : IVec S640x14336 32 := broadcastInDim S640x14336 ![] bcast_S_S640x14336 main_c_10
  let main_v24 : IVec S640x14336 32 := andi main_v22 main_v23
  let main_c_11 : IVec S_ 32 := constantI S_ 32 6#32
  let main_v25 : IVec S640x14336 32 := broadcastInDim S640x14336 ![] bcast_S_S640x14336 main_c_11
  let main_v26 : IVec S640x14336 32 := Host.shrsi main_v0 main_v25
  let main_c_12 : IVec S_ 32 := constantI S_ 32 1#32
  let main_v27 : IVec S640x14336 32 := broadcastInDim S640x14336 ![] bcast_S_S640x14336 main_c_12
  let main_v28 : IVec S640x14336 32 := andi main_v26 main_v27
  let main_c_13 : IVec S_ 32 := constantI S_ 32 7#32
  let main_v29 : IVec S640x14336 32 := broadcastInDim S640x14336 ![] bcast_S_S640x14336 main_c_13
  let main_v30 : IVec S640x14336 32 := Host.shrsi main_v0 main_v29
  let main_c_14 : IVec S_ 32 := constantI S_ 32 1#32
  let main_v31 : IVec S640x14336 32 := broadcastInDim S640x14336 ![] bcast_S_S640x14336 main_c_14
  fn_part2 (F := F) main_v4 main_v8 main_v12 main_v16 main_v20 main_v24 main_v28 main_v30 main_v31

def fn {F : FTy → Type} [FloatOps F] (main_arg0 : FVec F S48x1x5120 .bf16) (main_arg1 : IVec S1280x14336 8) (main_arg2 : IVec S640x14336 8) (main_arg3 : FVec F S40x14336 .bf16) : IVec S640x14336 1 :=
  let main_v0 : IVec S640x14336 32 := (extui 32 · natLt_8_32) main_arg2
  let main_c : IVec S_ 32 := constantI S_ 32 0#32
  let main_v1 : IVec S640x14336 32 := broadcastInDim S640x14336 ![] bcast_S_S640x14336 main_c
  let main_v2 : IVec S640x14336 32 := Host.shrsi main_v0 main_v1
  let main_c_0 : IVec S_ 32 := constantI S_ 32 1#32
  let main_v3 : IVec S640x14336 32 := broadcastInDim S640x14336 ![] bcast_S_S640x14336 main_c_0
  let main_v4 : IVec S640x14336 32 := andi main_v2 main_v3
  let main_c_1 : IVec S_ 32 := constantI S_ 32 1#32
  let main_v5 : IVec S640x14336 32 := broadcastInDim S640x14336 ![] bcast_S_S640x14336 main_c_1
  let main_v6 : IVec S640x14336 32 := Host.shrsi main_v0 main_v5
  let main_c_2 : IVec S_ 32 := constantI S_ 32 1#32
  let main_v7 : IVec S640x14336 32 := broadcastInDim S640x14336 ![] bcast_S_S640x14336 main_c_2
  let main_v8 : IVec S640x14336 32 := andi main_v6 main_v7
  let main_c_3 : IVec S_ 32 := constantI S_ 32 2#32
  let main_v9 : IVec S640x14336 32 := broadcastInDim S640x14336 ![] bcast_S_S640x14336 main_c_3
  let main_v10 : IVec S640x14336 32 := Host.shrsi main_v0 main_v9
  let main_c_4 : IVec S_ 32 := constantI S_ 32 1#32
  let main_v11 : IVec S640x14336 32 := broadcastInDim S640x14336 ![] bcast_S_S640x14336 main_c_4
  let main_v12 : IVec S640x14336 32 := andi main_v10 main_v11
  let main_c_5 : IVec S_ 32 := constantI S_ 32 3#32
  let main_v13 : IVec S640x14336 32 := broadcastInDim S640x14336 ![] bcast_S_S640x14336 main_c_5
  let main_v14 : IVec S640x14336 32 := Host.shrsi main_v0 main_v13
  let main_c_6 : IVec S_ 32 := constantI S_ 32 1#32
  let main_v15 : IVec S640x14336 32 := broadcastInDim S640x14336 ![] bcast_S_S640x14336 main_c_6
  fn_part1 (F := F) main_v0 main_v4 main_v8 main_v12 main_v14 main_v15
-- ==== Kernel.lean ====
abbrev S48x1x5120 : Shape := ⟨3, ![48, 1, 5120]⟩
abbrev S1280x14336 : Shape := ⟨2, ![1280, 14336]⟩
abbrev S640x14336 : Shape := ⟨2, ![640, 14336]⟩
abbrev S40x14336 : Shape := ⟨2, ![40, 14336]⟩
abbrev S48x20x64x4 : Shape := ⟨4, ![48, 20, 64, 4]⟩
abbrev S48x20x4x64 : Shape := ⟨4, ![48, 20, 4, 64]⟩
abbrev S48x5120 : Shape := ⟨2, ![48, 5120]⟩
abbrev S48x14336 : Shape := ⟨2, ![48, 14336]⟩
abbrev S1280x512 : Shape := ⟨2, ![1280, 512]⟩
abbrev S640x512 : Shape := ⟨2, ![640, 512]⟩
abbrev S40x512 : Shape := ⟨2, ![40, 512]⟩
abbrev S48x512 : Shape := ⟨2, ![48, 512]⟩
abbrev S64x512 : Shape := ⟨2, ![64, 512]⟩
abbrev S32x512 : Shape := ⟨2, ![32, 512]⟩
abbrev S20x512 : Shape := ⟨2, ![20, 512]⟩
abbrev S1x512 : Shape := ⟨2, ![1, 512]⟩
abbrev S2x512 : Shape := ⟨2, ![2, 512]⟩
abbrev S8x512 : Shape := ⟨2, ![8, 512]⟩
abbrev S16x512 : Shape := ⟨2, ![16, 512]⟩
abbrev S8x8x512 : Shape := ⟨3, ![8, 8, 512]⟩
abbrev S8x1x512 : Shape := ⟨3, ![8, 1, 512]⟩
abbrev S256x512 : Shape := ⟨2, ![256, 512]⟩
abbrev S48x256 : Shape := ⟨2, ![48, 256]⟩

abbrev nBuf : Space → Nat
  | .hbm => 8
  | .vmem => 9
  | .smem => 0
  | _ => 0

abbrev bufTy : (tb : Table) → Fin (tcTables nBuf tb) → BufTy
  | .hbm, ⟨0, _⟩ => ⟨S48x1x5120, .bf16⟩
  | .hbm, ⟨1, _⟩ => ⟨S1280x14336, .i8⟩
  | .hbm, ⟨2, _⟩ => ⟨S640x14336, .i8⟩
  | .hbm, ⟨3, _⟩ => ⟨S40x14336, .bf16⟩
  | .hbm, ⟨4, _⟩ => ⟨S48x20x64x4, .bf16⟩
  | .hbm, ⟨5, _⟩ => ⟨S48x20x4x64, .bf16⟩
  | .hbm, ⟨6, _⟩ => ⟨S48x5120, .bf16⟩
  | .hbm, ⟨7, _⟩ => ⟨S48x14336, .bf16⟩
  | .local _ .vmem, ⟨0, _⟩ => ⟨S48x5120, .bf16⟩
  | .local _ .vmem, ⟨1, _⟩ => ⟨S1280x512, .i8⟩
  | .local _ .vmem, ⟨2, _⟩ => ⟨S1280x512, .i8⟩
  | .local _ .vmem, ⟨3, _⟩ => ⟨S640x512, .i8⟩
  | .local _ .vmem, ⟨4, _⟩ => ⟨S640x512, .i8⟩
  | .local _ .vmem, ⟨5, _⟩ => ⟨S40x512, .bf16⟩
  | .local _ .vmem, ⟨6, _⟩ => ⟨S40x512, .bf16⟩
  | .local _ .vmem, ⟨7, _⟩ => ⟨S48x512, .bf16⟩
  | .local _ .vmem, ⟨8, _⟩ => ⟨S48x512, .bf16⟩
  | _, _ => ⟨S48x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [BitOps F]

abbrev grid0 : Pipeline.Grid := ⟨1, ![28], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S48x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1280x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S640x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S40x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S48x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F]
-- ==== ReferenceIdeal.lean ====
abbrev S48x1x5120 : Shape := ⟨3, ![48, 1, 5120]⟩
abbrev S1280x14336 : Shape := ⟨2, ![1280, 14336]⟩
abbrev S640x14336 : Shape := ⟨2, ![640, 14336]⟩
abbrev S40x14336 : Shape := ⟨2, ![40, 14336]⟩
abbrev S640x2x14336 : Shape := ⟨3, ![640, 2, 14336]⟩
abbrev S_ : Shape := ⟨0, ![]⟩
abbrev S40x16x14336 : Shape := ⟨3, ![40, 16, 14336]⟩
abbrev S640x1x14336 : Shape := ⟨3, ![640, 1, 14336]⟩
abbrev S48x640x2x4 : Shape := ⟨4, ![48, 640, 2, 4]⟩
abbrev S48x640x1x1 : Shape := ⟨4, ![48, 640, 1, 1]⟩
abbrev S48x640 : Shape := ⟨2, ![48, 640]⟩
abbrev S48x14336 : Shape := ⟨2, ![48, 14336]⟩

abbrev nBuf : Space → Nat
  | .hbm => 204
  | .vmem => 0
  | .smem => 0
  | _ => 0

abbrev hbmTy0_0 (i : Nat) : BufTy := match i % 128 with
  | 0 => ⟨S48x1x5120, .bf16⟩
  | 1 => ⟨S1280x14336, .i8⟩
  | 2 => ⟨S640x14336, .i8⟩
  | 3 => ⟨S40x14336, .bf16⟩
  | 4 => ⟨S1280x14336, .i32⟩
  | 5 => ⟨S640x2x14336, .i32⟩
  | 6 => ⟨S_, .i32⟩
  | 7 => ⟨S640x2x14336, .i32⟩
  | 8 => ⟨S640x2x14336, .i32⟩
  | 9 => ⟨S_, .i32⟩
  | 10 => ⟨S640x2x14336, .i32⟩
  | 11 => ⟨S640x2x14336, .i32⟩
  | 12 => ⟨S_, .i32⟩
  | 13 => ⟨S640x2x14336, .i32⟩
  | 14 => ⟨S640x2x14336, .i32⟩
  | 15 => ⟨S40x16x14336, .bf16⟩
  | 16 => ⟨S640x14336, .bf16⟩
  | 17 => ⟨S640x1x14336, .bf16⟩
  | 18 => ⟨S640x2x14336, .bf16⟩
  | 19 => ⟨S_, .bf16⟩
  | 20 => ⟨S640x2x14336, .bf16⟩
  | 21 => ⟨S640x2x14336, .bf16⟩
  | 22 => ⟨S640x2x14336, .bf16⟩
  | 23 => ⟨S640x2x14336, .bf16⟩
  | 24 => ⟨S640x2x14336, .bf16⟩
  | 25 => ⟨S_, .bf16⟩
  | 26 => ⟨S640x2x14336, .bf16⟩
  | 27 => ⟨S640x2x14336, .bf16⟩
  | 28 => ⟨S640x2x14336, .bf16⟩
  | 29 => ⟨S640x2x14336, .bf16⟩
  | 30 => ⟨S640x14336, .i32⟩
  | 31 => ⟨S48x640x2x4, .bf16⟩
  | 32 => ⟨S640x1x14336, .bf16⟩
  | 33 => ⟨S640x14336, .bf16⟩
  | 34 => ⟨S640x1x14336, .bf16⟩
  | 35 => ⟨S640x14336, .bf16⟩
  | 36 => ⟨S_, .i1⟩
  | 37 => ⟨S640x14336, .i1⟩
  | 38 => ⟨S_, .i32⟩
  | 39 => ⟨S640x14336, .i32⟩
  | 40 => ⟨S640x14336, .i32⟩
  | 41 => ⟨S_, .i32⟩
  | 42 => ⟨S640x14336, .i32⟩
  | 43 => ⟨S640x14336, .i32⟩
  | 44 => ⟨S_, .i32⟩
  | 45 => ⟨S640x14336, .i32⟩
  | 46 => ⟨S640x14336, .i1⟩
  | 47 => ⟨S640x14336, .i1⟩
  | 48 => ⟨S640x14336, .i1⟩
  | 49 => ⟨S640x14336, .bf16⟩
  | 50 => ⟨S_, .bf16⟩
  | 51 => ⟨S640x14336, .bf16⟩
  | 52 => ⟨S640x14336, .bf16⟩
  | 53 => ⟨S48x640x1x1, .bf16⟩
  | 54 => ⟨S48x640, .bf16⟩
  | 55 => ⟨S48x14336, .f32⟩
  | 56 => ⟨S640x14336, .i1⟩
  | 57 => ⟨S_, .i32⟩
  | 58 => ⟨S640x14336, .i32⟩
  | 59 => ⟨S640x14336, .i32⟩
  | 60 => ⟨S_, .i32⟩
  | 61 => ⟨S640x14336, .i32⟩
  | 62 => ⟨S640x14336, .i32⟩
  | 63 => ⟨S_, .i32⟩
  | 64 => ⟨S640x14336, .i32⟩
  | 65 => ⟨S640x14336, .i1⟩
  | 66 => ⟨S640x14336, .i1⟩
  | 67 => ⟨S640x14336, .i1⟩
  | 68 => ⟨S640x14336, .bf16⟩
  | 69 => ⟨S_, .bf16⟩
  | 70 => ⟨S640x14336, .bf16⟩
  | 71 => ⟨S640x14336, .bf16⟩
  | 72 => ⟨S48x640x1x1, .bf16⟩
  | 73 => ⟨S48x640, .bf16⟩
  | 74 => ⟨S48x14336, .f32⟩
  | 75 => ⟨S48x14336, .f32⟩
  | 76 => ⟨S640x14336, .i1⟩
  | 77 => ⟨S_, .i32⟩
  | 78 => ⟨S640x14336, .i32⟩
  | 79 => ⟨S640x14336, .i32⟩
  | 80 => ⟨S_, .i32⟩
  | 81 => ⟨S640x14336, .i32⟩
  | 82 => ⟨S640x14336, .i32⟩
  | 83 => ⟨S_, .i32⟩
  | 84 => ⟨S640x14336, .i32⟩
  | 85 => ⟨S640x14336, .i1⟩
  | 86 => ⟨S640x14336, .i1⟩
  | 87 => ⟨S640x14336, .i1⟩
  | 88 => ⟨S640x14336, .bf16⟩
  | 89 => ⟨S_, .bf16⟩
  | 90 => ⟨S640x14336, .bf16⟩
  | 91 => ⟨S640x14336, .bf16⟩
  | 92 => ⟨S48x640x1x1, .bf16⟩
  | 93 => ⟨S48x640, .bf16⟩
  | 94 => ⟨S48x14336, .f32⟩
  | 95 => ⟨S48x14336, .f32⟩
  | 96 => ⟨S640x14336, .i1⟩
  | 97 => ⟨S_, .i32⟩
  | 98 => ⟨S640x14336, .i32⟩
  | 99 => ⟨S640x14336, .i32⟩
  | 100 => ⟨S_, .i32⟩
  | 101 => ⟨S640x14336, .i32⟩
  | 102 => ⟨S640x14336, .i32⟩
  | 103 => ⟨S_, .i32⟩
  | 104 => ⟨S640x14336, .i32⟩
  | 105 => ⟨S640x14336, .i1⟩
  | 106 => ⟨S640x14336, .i1⟩
  | 107 => ⟨S640x14336, .i1⟩
  | 108 => ⟨S640x14336, .bf16⟩
  | 109 => ⟨S_, .bf16⟩
  | 110 => ⟨S640x14336, .bf16⟩
  | 111 => ⟨S640x14336, .bf16⟩
  | 112 => ⟨S48x640x1x1, .bf16⟩
  | 113 => ⟨S48x640, .bf16⟩
  | 114 => ⟨S48x14336, .f32⟩
  | 115 => ⟨S48x14336, .f32⟩
  | 116 => ⟨S640x14336, .i1⟩
  | 117 => ⟨S640x1x14336, .bf16⟩
  | 118 => ⟨S640x14336, .bf16⟩
  | 119 => ⟨S640x1x14336, .bf16⟩
  | 120 => ⟨S640x14336, .bf16⟩
  | 121 => ⟨S_, .i1⟩
  | 122 => ⟨S640x14336, .i1⟩
  | 123 => ⟨S_, .i32⟩
  | 124 => ⟨S640x14336, .i32⟩
  | 125 => ⟨S640x14336, .i32⟩
  | 126 => ⟨S_, .i32⟩
  | 127 => ⟨S640x14336, .i32⟩
  | _ => ⟨S48x1x5120, .bf16⟩

abbrev hbmTy0_1 (i : Nat) : BufTy := match i % 128 with
  | 0 => ⟨S640x14336, .i32⟩
  | 1 => ⟨S_, .i32⟩
  | 2 => ⟨S640x14336, .i32⟩
  | 3 => ⟨S640x14336, .i1⟩
  | 4 => ⟨S640x14336, .i1⟩
  | 5 => ⟨S640x14336, .i1⟩
  | 6 => ⟨S640x14336, .bf16⟩
  | 7 => ⟨S_, .bf16⟩
  | 8 => ⟨S640x14336, .bf16⟩
  | 9 => ⟨S640x14336, .bf16⟩
  | 10 => ⟨S48x640x1x1, .bf16⟩
  | 11 => ⟨S48x640, .bf16⟩
  | 12 => ⟨S48x14336, .f32⟩
  | 13 => ⟨S48x14336, .f32⟩
  | 14 => ⟨S640x14336, .i1⟩
  | 15 => ⟨S_, .i32⟩
  | 16 => ⟨S640x14336, .i32⟩
  | 17 => ⟨S640x14336, .i32⟩
  | 18 => ⟨S_, .i32⟩
  | 19 => ⟨S640x14336, .i32⟩
  | 20 => ⟨S640x14336, .i32⟩
  | 21 => ⟨S_, .i32⟩
  | 22 => ⟨S640x14336, .i32⟩
  | 23 => ⟨S640x14336, .i1⟩
  | 24 => ⟨S640x14336, .i1⟩
  | 25 => ⟨S640x14336, .i1⟩
  | 26 => ⟨S640x14336, .bf16⟩
  | 27 => ⟨S_, .bf16⟩
  | 28 => ⟨S640x14336, .bf16⟩
  | 29 => ⟨S640x14336, .bf16⟩
  | 30 => ⟨S48x640x1x1, .bf16⟩
  | 31 => ⟨S48x640, .bf16⟩
  | 32 => ⟨S48x14336, .f32⟩
  | 33 => ⟨S48x14336, .f32⟩
  | 34 => ⟨S640x14336, .i1⟩
  | 35 => ⟨S_, .i32⟩
  | 36 => ⟨S640x14336, .i32⟩
  | 37 => ⟨S640x14336, .i32⟩
  | 38 => ⟨S_, .i32⟩
  | 39 => ⟨S640x14336, .i32⟩
  | 40 => ⟨S640x14336, .i32⟩
  | 41 => ⟨S_, .i32⟩
  | 42 => ⟨S640x14336, .i32⟩
  | 43 => ⟨S640x14336, .i1⟩
  | 44 => ⟨S640x14336, .i1⟩
  | 45 => ⟨S640x14336, .i1⟩
  | 46 => ⟨S640x14336, .bf16⟩
  | 47 => ⟨S_, .bf16⟩
  | 48 => ⟨S640x14336, .bf16⟩
  | 49 => ⟨S640x14336, .bf16⟩
  | 50 => ⟨S48x640x1x1, .bf16⟩
  | 51 => ⟨S48x640, .bf16⟩
  | 52 => ⟨S48x14336, .f32⟩
  | 53 => ⟨S48x14336, .f32⟩
  | 54 => ⟨S640x14336, .i1⟩
  | 55 => ⟨S_, .i32⟩
  | 56 => ⟨S640x14336, .i32⟩
  | 57 => ⟨S640x14336, .i32⟩
  | 58 => ⟨S_, .i32⟩
  | 59 => ⟨S640x14336, .i32⟩
  | 60 => ⟨S640x14336, .i32⟩
  | 61 => ⟨S_, .i32⟩
  | 62 => ⟨S640x14336, .i32⟩
  | 63 => ⟨S640x14336, .i1⟩
  | 64 => ⟨S640x14336, .i1⟩
  | 65 => ⟨S640x14336, .i1⟩
  | 66 => ⟨S640x14336, .bf16⟩
  | 67 => ⟨S_, .bf16⟩
  | 68 => ⟨S640x14336, .bf16⟩
  | 69 => ⟨S640x14336, .bf16⟩
  | 70 => ⟨S48x640x1x1, .bf16⟩
  | 71 => ⟨S48x640, .bf16⟩
  | 72 => ⟨S48x14336, .f32⟩
  | 73 => ⟨S48x14336, .f32⟩
  | 74 => ⟨S640x14336, .i1⟩
  | 75 => ⟨S48x14336, .bf16⟩
  | _ => ⟨S48x1x5120, .bf16⟩

abbrev hbmTy (i : Nat) : BufTy := match i / 128 with
  | 0 => hbmTy0_0 i
  | 1 => hbmTy0_1 i
  | _ => ⟨S48x1x5120, .bf16⟩

abbrev bufTy : (tb : Table) → Fin (tcTables nBuf tb) → BufTy
  | .hbm, ⟨i, _⟩ => hbmTy i
  | _, _ => ⟨S48x1x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c_3 : Ref sig .tc := ⟨.hbm, 36, rfl⟩
abbrev main_v27 : Ref sig .tc := ⟨.hbm, 37, rfl⟩
abbrev main_c_4 : Ref sig .tc := ⟨.hbm, 38, rfl⟩
abbrev main_v28 : Ref sig .tc := ⟨.hbm, 39, rfl⟩
abbrev main_v29 : Ref sig .tc := ⟨.hbm, 40, rfl⟩
abbrev main_c_5 : Ref sig .tc := ⟨.hbm, 41, rfl⟩
abbrev main_v30 : Ref sig .tc := ⟨.hbm, 42, rfl⟩
abbrev main_v31 : Ref sig .tc := ⟨.hbm, 43, rfl⟩
abbrev main_c_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_call1_v0 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_c_8 : Ref sig .tc := ⟨.hbm, 57, rfl⟩
abbrev main_v42 : Ref sig .tc := ⟨.hbm, 58, rfl⟩
abbrev main_v43 : Ref sig .tc := ⟨.hbm, 59, rfl⟩
abbrev main_c_9 : Ref sig .tc := ⟨.hbm, 60, rfl⟩
abbrev main_v44 : Ref sig .tc := ⟨.hbm, 61, rfl⟩
abbrev main_v45 : Ref sig .tc := ⟨.hbm, 62, rfl⟩
abbrev main_c_10 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_11 : Ref sig .tc := ⟨.hbm, 69, rfl⟩
abbrev main_call3_v0 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_c_12 : Ref sig .tc := ⟨.hbm, 77, rfl⟩
abbrev main_v57 : Ref sig .tc := ⟨.hbm, 78, rfl⟩
abbrev main_v58 : Ref sig .tc := ⟨.hbm, 79, rfl⟩
abbrev main_c_13 : Ref sig .tc := ⟨.hbm, 80, rfl⟩
abbrev main_v59 : Ref sig .tc := ⟨.hbm, 81, rfl⟩
abbrev main_v60 : Ref sig .tc := ⟨.hbm, 82, rfl⟩
abbrev main_c_14 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_15 : Ref sig .tc := ⟨.hbm, 89, rfl⟩
abbrev main_call5_v0 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_16 : Ref sig .tc := ⟨.hbm, 97, rfl⟩
abbrev main_v72 : Ref sig .tc := ⟨.hbm, 98, rfl⟩
abbrev main_v73 : Ref sig .tc := ⟨.hbm, 99, rfl⟩
abbrev main_c_17 : Ref sig .tc := ⟨.hbm, 100, rfl⟩
abbrev main_v74 : Ref sig .tc := ⟨.hbm, 101, rfl⟩
abbrev main_v75 : Ref sig .tc := ⟨.hbm, 102, rfl⟩
abbrev main_c_18 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_19 : Ref sig .tc := ⟨.hbm, 109, rfl⟩
abbrev main_call7_v0 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_c_20 : Ref sig .tc := ⟨.hbm, 121, rfl⟩
abbrev main_v91 : Ref sig .tc := ⟨.hbm, 122, rfl⟩
abbrev main_c_21 : Ref sig .tc := ⟨.hbm, 123, rfl⟩
abbrev main_v92 : Ref sig .tc := ⟨.hbm, 124, rfl⟩
abbrev main_v93 : Ref sig .tc := ⟨.hbm, 125, rfl⟩
abbrev main_c_22 : Ref sig .tc := ⟨.hbm, 126, rfl⟩
abbrev main_v94 : Ref sig .tc := ⟨.hbm, 127, rfl⟩
abbrev main_v95 : Ref sig .tc := ⟨.hbm, 128, rfl⟩
abbrev main_c_23 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_cst_24 : Ref sig .tc := ⟨.hbm, 135, rfl⟩
abbrev main_call9_v0 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_c_25 : Ref sig .tc := ⟨.hbm, 143, rfl⟩
abbrev main_v107 : Ref sig .tc := ⟨.hbm, 144, rfl⟩
abbrev main_v108 : Ref sig .tc := ⟨.hbm, 145, rfl⟩
abbrev main_c_26 : Ref sig .tc := ⟨.hbm, 146, rfl⟩
abbrev main_v109 : Ref sig .tc := ⟨.hbm, 147, rfl⟩
abbrev main_v110 : Ref sig .tc := ⟨.hbm, 148, rfl⟩
abbrev main_c_27 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_cst_28 : Ref sig .tc := ⟨.hbm, 155, rfl⟩
abbrev main_call11_v0 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_c_29 : Ref sig .tc := ⟨.hbm, 163, rfl⟩
abbrev main_v122 : Ref sig .tc := ⟨.hbm, 164, rfl⟩
abbrev main_v123 : Ref sig .tc := ⟨.hbm, 165, rfl⟩
abbrev main_c_30 : Ref sig .tc := ⟨.hbm, 166, rfl⟩
abbrev main_v124 : Ref sig .tc := ⟨.hbm, 167, rfl⟩
abbrev main_v125 : Ref sig .tc := ⟨.hbm, 168, rfl⟩
abbrev main_c_31 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_cst_32 : Ref sig .tc := ⟨.hbm, 175, rfl⟩
abbrev main_call13_v0 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_c_33 : Ref sig .tc := ⟨.hbm, 183, rfl⟩
abbrev main_v137 : Ref sig .tc := ⟨.hbm, 184, rfl⟩
abbrev main_v138 : Ref sig .tc := ⟨.hbm, 185, rfl⟩
abbrev main_c_34 : Ref sig .tc := ⟨.hbm, 186, rfl⟩
abbrev main_v139 : Ref sig .tc := ⟨.hbm, 187, rfl⟩
abbrev main_v140 : Ref sig .tc := ⟨.hbm, 188, rfl⟩
abbrev main_c_35 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_cst_36 : Ref sig .tc := ⟨.hbm, 195, rfl⟩
abbrev main_call15_v0 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩

abbrev nD : Nat := 1
abbrev τ : Topo := Topo.v7x

variable {F : FTy → Type} [FloatOps F]
-- ==== Proof.Step.lean ====
/- The body of the kernel, one contraction block at a time. The body is straight-line code that handles 20 blocks of the
   contraction axis in a row; each block goes through the same operations, which this file names once (`step`), and the
   stored tile is the 20-fold composition of `step` (`out_eq`). -/
module

public import proofs.«01_k».proof.Proof.Gen.KernelIdeal.Value

@[expose] public section

noncomputable section

namespace Cert.KernelIdeal.Steps

open Cert.KernelIdeal Cert.KernelIdeal.Gen Idealize.ShloMosaic

variable {F : FTy → Type} [FloatOps F]

/-- One row eight times. -/
def rows8 (r : FVec F S1x512 .bf16) : FVec F S8x512 .bf16 :=
  concatenate S8x512 0 [⟨S1x512, r⟩, ⟨S1x512, r⟩, ⟨S1x512, r⟩, ⟨S1x512, r⟩, ⟨S1x512, r⟩, ⟨S1x512, r⟩, ⟨S1x512, r⟩, ⟨S1x512, r⟩] concatenates_S1x512_S1x512_S1x512_S1x512_S1x512_S1x512_S1x512_S1x512_S8x512_d0

/-- One row sixteen times: eight copies twinned. -/
def rows16 (r : FVec F S1x512 .bf16) : FVec F S16x512 .bf16 :=
  interleaveRows S16x512 (rows8 r) (rows8 r) bitcasts_S16x512_w16_S8x512_w32

/-- The two scale rows of a contraction block, spread over its 64 quads: the first over 32, the second over the next 32. -/
def scaleTile (s : Vec F S2x512 .bf16) : FVec F S64x512 .bf16 :=
  have lo : FVec F S16x512 .bf16 := rows16 (rowsOfParity 0 S1x512 s bitcasts_S2x512_w16_S1x512_w32)
  have hi : FVec F S16x512 .bf16 := rows16 (rowsOfParity 1 S1x512 s bitcasts_S2x512_w16_S1x512_w32)
  concatenate S64x512 0 [⟨S16x512, lo⟩, ⟨S16x512, lo⟩, ⟨S16x512, hi⟩, ⟨S16x512, hi⟩] concatenates_S16x512_S16x512_S16x512_S16x512_S64x512_d0

/-- Where nibble `k` of a word sits: `4 k` bits up. -/
def nibShift : IVec S8x8x512 32 :=
  muli (iota .tc S8x8x512 32 [1] iota_S8x8x512_d1_w32) (broadcast S8x8x512 4#32)

/-- The low nibbles of eight consecutive rows packed into one word, each with 8 subtracted (as 4-bit two's complement). -/
def codeWord (v : Vec F S64x512 .i8) : IVec S8x512 32 :=
  have nib : IVec S64x512 4 := trunci 4 v natLt_4_8
  have wide : IVec S64x512 32 := extsi 32 nib natLt_4_32
  have cast : IVec S8x8x512 32 := shapeCast S8x8x512 wide shapeCasts_S64x512_S8x8x512
  have low : IVec S8x8x512 32 := andi cast (broadcast S8x8x512 15#32)
  have up : IVec S8x8x512 32 := shli low nibShift
  have word : IVec S8x512 32 := multiReductionI .add [1] S8x512 up 0#32 reduces_S8x8x512_S8x512 rfl
  xori word (broadcast S8x512 2290649224#32)

/-- Every byte's high nibble brought down to its low nibble (what then stands in the high nibble is of no use). -/
def highNibbles (v : Vec F S64x512 .i8) : IVec S64x512 8 :=
  bitcast S64x512 8 (shrui (bitcast S16x512 32 v bitcasts_S64x512_w8_S16x512_w32) (broadcast S16x512 4#32)) bitcasts_S16x512_w32_S64x512_w8

/-- The mask bytes as words of eight nibbles, nibble `k` of word row `r` the mask of quad `8 r + k`. -/
def maskWord (k : Vec F S32x512 .i8) : IVec S8x512 32 :=
  bitcast S8x512 32 k bitcasts_S32x512_w8_S8x512_w32

/-- Bit 0 of every mask nibble, spread over its nibble. -/
def spread0 (w : IVec S8x512 32) : IVec S8x512 32 :=
  muli (andi w (broadcast S8x512 286331153#32)) (broadcast S8x512 15#32)

/-- Bit `p` of every mask nibble, spread over its nibble. -/
def spread (w : IVec S8x512 32) (p : BitVec 32) : IVec S8x512 32 :=
  muli (andi (shrui w (broadcast S8x512 p)) (broadcast S8x512 286331153#32)) (broadcast S8x512 15#32)

/-- Words of eight nibbles back to one signed 4-bit number a row. -/
def nibbles (p : IVec S8x512 32) : IVec S64x512 4 :=
  have row : IVec S8x1x512 32 := shapeCast S8x1x512 p shapeCasts_S8x512_S8x1x512
  have row' : IVec S8x1x512 32 := shapeCast S8x1x512 row shapeCasts_S8x1x512_S8x1x512
  have rows : IVec S8x8x512 32 := broadcastTo S8x8x512 row' broadcasts_S8x1x512_S8x8x512
  have down : IVec S8x8x512 32 := shrui rows nibShift
  trunci 4 (shapeCast S64x512 down shapeCasts_S8x8x512_S64x512) natLt_4_32

/-- A quad position's numbers times the scales. -/
def scaled (p : IVec S8x512 32) (s : FVec F S64x512 .bf16) : FVec F S64x512 .bf16 :=
  mulf (sitofp .bf16 (nibbles p)) s

/-- The decoded weights of one contraction block, quad position by quad position: 4 × 64 rows. -/
def weights (v : Vec F S64x512 .i8) (k : Vec F S32x512 .i8) (s : Vec F S2x512 .bf16) : FVec F S256x512 .bf16 :=
  have c0 : IVec S8x512 32 := codeWord (F := F) v
  have c1 : IVec S8x512 32 := codeWord (F := F) (highNibbles (F := F) v)
  have w : IVec S8x512 32 := maskWord (F := F) k
  have m0 : IVec S8x512 32 := spread0 w
  have m1 : IVec S8x512 32 := spread w 1#32
  have m3 : IVec S8x512 32 := spread w 3#32
  have d : IVec S8x512 32 := xori c0 c1
  have p0 : IVec S8x512 32 := andi c0 m0
  have p3 : IVec S8x512 32 := andi c1 m3
  have p1 : IVec S8x512 32 := andi (xori c0 (andi d m0)) m1
  have p2 : IVec S8x512 32 := xori (xori (xori d p0) p3) p1
  have t : FVec F S64x512 .bf16 := scaleTile s
  concatenate S256x512 0 [⟨S64x512, scaled p0 t⟩, ⟨S64x512, scaled p1 t⟩, ⟨S64x512, scaled p2 t⟩, ⟨S64x512, scaled p3 t⟩] concatenates_S64x512_S64x512_S64x512_S64x512_S256x512_d0

/-- One contraction block: its 256 columns of `x` times its decoded weights, added to the sum so far. -/
def step (acc : FVec F S48x512 .f32) (x : Vec F S48x256 .bf16) (v : Vec F S64x512 .i8) (k : Vec F S32x512 .i8) (s : Vec F S2x512 .bf16) :
    FVec F S48x512 .f32 :=
  addf acc (matmul dot_S48x256_S256x512_S48x512_1_0_0_1_n_n none (shapeCast S48x256 x shapeCasts_S48x256_S48x256) (weights v k s) (constant S48x512 .f32 0x00000000#32))

/-- The sum before the first contraction block. -/
def zero : FVec F S48x512 .f32 := broadcast S48x512 (Scalar.ofBits .f32 0x00000000#32)

set_option maxRecDepth 65536 in
set_option maxHeartbeats 4000000 in
/-- What the body stores, from the input tiles: the rounding of the sum that 20 steps build, each on its own rows and columns. -/
theorem out_eq (x0 : Vec F S48x5120 .bf16) (x1 : Vec F S1280x512 .i8) (x2 : Vec F S640x512 .i8) (x3 : Vec F S40x512 .bf16) :
    out0_4 x0 x1 x2 x3 = View.canon [⟨r0_80, truncf .bf16
      (step (step (step (step (step (step (step (step (step (step (step (step (step (step (step (step (step (step (step (step zero
        (View.ld x0 r0_3) (View.ld x1 r0_0) (View.ld x2 r0_1) (View.ld x3 r0_2))
        (View.ld x0 r0_7) (View.ld x1 r0_4) (View.ld x2 r0_5) (View.ld x3 r0_6))
        (View.ld x0 r0_11) (View.ld x1 r0_8) (View.ld x2 r0_9) (View.ld x3 r0_10))
        (View.ld x0 r0_15) (View.ld x1 r0_12) (View.ld x2 r0_13) (View.ld x3 r0_14))
        (View.ld x0 r0_19) (View.ld x1 r0_16) (View.ld x2 r0_17) (View.ld x3 r0_18))
        (View.ld x0 r0_23) (View.ld x1 r0_20) (View.ld x2 r0_21) (View.ld x3 r0_22))
        (View.ld x0 r0_27) (View.ld x1 r0_24) (View.ld x2 r0_25) (View.ld x3 r0_26))
        (View.ld x0 r0_31) (View.ld x1 r0_28) (View.ld x2 r0_29) (View.ld x3 r0_30))
        (View.ld x0 r0_35) (View.ld x1 r0_32) (View.ld x2 r0_33) (View.ld x3 r0_34))
        (View.ld x0 r0_39) (View.ld x1 r0_36) (View.ld x2 r0_37) (View.ld x3 r0_38))
        (View.ld x0 r0_43) (View.ld x1 r0_40) (View.ld x2 r0_41) (View.ld x3 r0_42))
        (View.ld x0 r0_47) (View.ld x1 r0_44) (View.ld x2 r0_45) (View.ld x3 r0_46))
        (View.ld x0 r0_51) (View.ld x1 r0_48) (View.ld x2 r0_49) (View.ld x3 r0_50))
        (View.ld x0 r0_55) (View.ld x1 r0_52) (View.ld x2 r0_53) (View.ld x3 r0_54))
        (View.ld x0 r0_59) (View.ld x1 r0_56) (View.ld x2 r0_57) (View.ld x3 r0_58))
        (View.ld x0 r0_63) (View.ld x1 r0_60) (View.ld x2 r0_61) (View.ld x3 r0_62))
        (View.ld x0 r0_67) (View.ld x1 r0_64) (View.ld x2 r0_65) (View.ld x3 r0_66))
        (View.ld x0 r0_71) (View.ld x1 r0_68) (View.ld x2 r0_69) (View.ld x3 r0_70))
        (View.ld x0 r0_75) (View.ld x1 r0_72) (View.ld x2 r0_73) (View.ld x3 r0_74))
        (View.ld x0 r0_79) (View.ld x1 r0_76) (View.ld x2 r0_77) (View.ld x3 r0_78)) bitsLt_bf16_f32⟩] := by
  unfold_out out0_4
  rfl

end Cert.KernelIdeal.Steps

end
-- ==== Proof.Nibble.lean ====
/- The arithmetic of the packed numbers, on single words: eight 4-bit numbers packed into one 32-bit word are read back one
   by one, a mask bit multiplied by 15 fills its nibble, and the exclusive-or selection of the kernel is the selection
   "first kept position, second kept position, not kept" of the format, for masks that keep exactly two of four. -/
module

public import Idealize.ShloMosaic.Lib.Pointwise
public import Mathlib.Tactic.IntervalCases

@[expose] public section

namespace Cert.Nibble

open Idealize.ShloMosaic

/-- Nibble `k` of a word. -/
def nib (w : BitVec 32) (k : Nat) : BitVec 4 := (w >>> (4 * k)).setWidth 4

/-- Nibble `h` of a byte: the low one (0) or the high one (1). -/
def half (b : BitVec 8) (h : Nat) : BitVec 4 := (b >>> (4 * h)).setWidth 4

/-- A bit spread over a nibble. -/
def fill (b : Bool) : BitVec 4 := if b then 15#4 else 0#4

/-- A nibble's bits are the word's. -/
theorem nib_getLsbD (w : BitVec 32) (k i : Nat) (hi : i < 4) : (nib w k).getLsbD i = w.getLsbD (4 * k + i) := by
  simp [nib, hi]

/-- Nibbles of an exclusive or. -/
theorem nib_xor (a b : BitVec 32) (k : Nat) : nib (a ^^^ b) k = nib a k ^^^ nib b k := by
  simp [nib, BitVec.ushiftRight_xor_distrib, BitVec.setWidth_xor]

/-- Nibbles of an and. -/
theorem nib_and (a b : BitVec 32) (k : Nat) : nib (a &&& b) k = nib a k &&& nib b k := by
  simp [nib, BitVec.ushiftRight_and_distrib, BitVec.setWidth_and]

/-- Every nibble of the word `0x88888888` is 8. -/
theorem nib_eights : ∀ k : Fin 8, nib 2290649224#32 k = 8#4 := by decide

/-- Eight numbers below 16 at their places in a sum, read back: division by `16 ^ k` and the remainder by 16. -/
theorem digits (a0 a1 a2 a3 a4 a5 a6 a7 : Nat) (h0 : a0 < 16) (h1 : a1 < 16) (h2 : a2 < 16) (h3 : a3 < 16) (h4 : a4 < 16)
    (h5 : a5 < 16) (h6 : a6 < 16) (h7 : a7 < 16) (N : Nat)
    (hN : N = a0 + 16 * a1 + 256 * a2 + 4096 * a3 + 65536 * a4 + 1048576 * a5 + 16777216 * a6 + 268435456 * a7) :
    N < 4294967296 ∧ N % 16 = a0 ∧ N / 16 % 16 = a1 ∧ N / 256 % 16 = a2 ∧ N / 4096 % 16 = a3 ∧ N / 65536 % 16 = a4
      ∧ N / 1048576 % 16 = a5 ∧ N / 16777216 % 16 = a6 ∧ N / 268435456 % 16 = a7 := by
  omega

/-- A nibble as a number. -/
theorem nib_toNat (w : BitVec 32) (k : Nat) : (nib w k).toNat = w.toNat / 2 ^ (4 * k) % 16 := by
  simp [nib, Nat.shiftRight_eq_div_pow]

/-- One term of the packing sum as a number. -/
theorem term_toNat (a : BitVec 4) (k : Nat) (hk : k < 8) : ((a.setWidth 32) <<< (4 * k)).toNat = a.toNat * 2 ^ (4 * k) := by
  have ha := a.isLt
  rw [BitVec.toNat_shiftLeft, BitVec.toNat_setWidth, Nat.shiftLeft_eq]
  interval_cases k <;> omega

/-- One more term of the packing sum, nothing carried out of the word. -/
theorem add_term (a : BitVec 4) (k : Nat) (hk : k < 8) (s : BitVec 32) (S : Nat) (hs : s.toNat = S)
    (hb : a.toNat * 2 ^ (4 * k) + S < 4294967296) :
    ((a.setWidth 32) <<< (4 * k) + s).toNat = a.toNat * 2 ^ (4 * k) + S := by
  rw [BitVec.toNat_add, term_toNat a k hk, hs]
  exact Nat.mod_eq_of_lt hb

/-- The packing sum as a number: its terms do not overlap, so nothing is carried and nothing is lost. -/
theorem sum_toNat (a : Fin 8 → BitVec 4) :
    (Finset.univ.fold IntOp.addi 0#32 fun k : Fin 8 => ((a k).setWidth 32) <<< (4 * k.val)).toNat
      = (a 0).toNat + 16 * (a 1).toNat + 256 * (a 2).toNat + 4096 * (a 3).toNat + 65536 * (a 4).toNat
        + 1048576 * (a 5).toNat + 16777216 * (a 6).toNat + 268435456 * (a 7).toNat := by
  have e : (Finset.univ.fold IntOp.addi 0#32 fun k : Fin 8 => ((a k).setWidth 32) <<< (4 * k.val))
      = (a 0).setWidth 32 <<< (4 * 0) + ((a 1).setWidth 32 <<< (4 * 1) + ((a 2).setWidth 32 <<< (4 * 2)
        + ((a 3).setWidth 32 <<< (4 * 3) + ((a 4).setWidth 32 <<< (4 * 4) + ((a 5).setWidth 32 <<< (4 * 5)
        + ((a 6).setWidth 32 <<< (4 * 6) + ((a 7).setWidth 32 <<< (4 * 7) + 0#32))))))) := rfl
  have h0 := (a 0).isLt; have h1 := (a 1).isLt; have h2 := (a 2).isLt; have h3 := (a 3).isLt
  have h4 := (a 4).isLt; have h5 := (a 5).isLt; have h6 := (a 6).isLt; have h7 := (a 7).isLt
  have s7 := add_term (a 7) 7 (by decide) 0#32 0 rfl (by omega)
  have s6 := add_term (a 6) 6 (by decide) _ _ s7 (by omega)
  have s5 := add_term (a 5) 5 (by decide) _ _ s6 (by omega)
  have s4 := add_term (a 4) 4 (by decide) _ _ s5 (by omega)
  have s3 := add_term (a 3) 3 (by decide) _ _ s4 (by omega)
  have s2 := add_term (a 2) 2 (by decide) _ _ s3 (by omega)
  have s1 := add_term (a 1) 1 (by decide) _ _ s2 (by omega)
  have s0 := add_term (a 0) 0 (by decide) _ _ s1 (by omega)
  rw [e, s0]
  omega

/-- EIGHT NUMBERS PACKED INTO A WORD ARE ITS NIBBLES. -/
theorem nib_sum (a : Fin 8 → BitVec 4) (k : Fin 8) :
    nib (Finset.univ.fold IntOp.addi 0#32 fun k : Fin 8 => ((a k).setWidth 32) <<< (4 * k.val)) k = a k := by
  apply BitVec.eq_of_toNat_eq
  rw [nib_toNat]
  obtain ⟨-, d0, d1, d2, d3, d4, d5, d6, d7⟩ := digits _ _ _ _ _ _ _ _ (a 0).isLt (a 1).isLt (a 2).isLt (a 3).isLt
    (a 4).isLt (a 5).isLt (a 6).isLt (a 7).isLt _ (sum_toNat a)
  fin_cases k
  · simpa using d0
  · exact d1
  · exact d2
  · exact d3
  · exact d4
  · exact d5
  · exact d6
  · exact d7

/-- Eight bits at the lowest places of the nibbles of a word. -/
def table (b : Fin 8 → Bool) : BitVec 32 :=
  BitVec.ofNat 32 ((b 0).toNat + 16 * (b 1).toNat + 256 * (b 2).toNat + 4096 * (b 3).toNat + 65536 * (b 4).toNat
    + 1048576 * (b 5).toNat + 16777216 * (b 6).toNat + 268435456 * (b 7).toNat)

/-- Where such a word's bits are. -/
theorem table_bit : ∀ (b0 b1 b2 b3 b4 b5 b6 b7 : Bool) (j : Fin 32),
    (table ![b0, b1, b2, b3, b4, b5, b6, b7]).getLsbD j
      = (decide (j.val % 4 = 0) && (![b0, b1, b2, b3, b4, b5, b6, b7] : Fin 8 → Bool) ⟨j.val / 4, by omega⟩) := by
  decide +kernel

/-- Fifteen times such a word has every bit spread over its nibble. -/
theorem table_fill : ∀ (b0 b1 b2 b3 b4 b5 b6 b7 : Bool) (k : Fin 8),
    nib (table ![b0, b1, b2, b3, b4, b5, b6, b7] * 15#32) k = fill ((![b0, b1, b2, b3, b4, b5, b6, b7] : Fin 8 → Bool) k) := by
  decide +kernel

/-- The constant that selects the lowest bit of every nibble, at a bit. -/
theorem ones_bit : ∀ j : Fin 32, (286331153#32).getLsbD j = decide (j.val % 4 = 0) := by decide

/-- A word with only the lowest bit of every nibble kept is the table of those bits. -/
theorem low_bits (w : BitVec 32) : w &&& 286331153#32
    = table ![w.getLsbD 0, w.getLsbD 4, w.getLsbD 8, w.getLsbD 12, w.getLsbD 16, w.getLsbD 20, w.getLsbD 24, w.getLsbD 28] := by
  apply BitVec.eq_of_getLsbD_eq
  intro i hi
  rw [BitVec.getLsbD_and, ones_bit ⟨i, hi⟩, table_bit _ _ _ _ _ _ _ _ ⟨i, hi⟩]
  by_cases h : i % 4 = 0
  · obtain ⟨k, rfl⟩ : ∃ k, i = 4 * k := ⟨i / 4, by omega⟩
    have hk : k < 8 := by omega
    interval_cases k <;> simp
  · simp [h]

/-- THE SPREAD MASK: bit 0 of every nibble, times 15, fills its nibble. -/
theorem nib_low_bits (w : BitVec 32) (k : Fin 8) : nib ((w &&& 286331153#32) * 15#32) k = fill (w.getLsbD (4 * k)) := by
  rw [low_bits, table_fill]
  fin_cases k <;> rfl

/-- The kernel's number at position `p` of a quad, from its byte of two codes and its mask nibble. -/
def decoded (v : BitVec 8) (m : BitVec 4) : Fin 4 → BitVec 4 :=
  let c0 := half v 0 ^^^ 8#4
  let c1 := half v 1 ^^^ 8#4
  let d := c0 ^^^ c1
  let p0 := c0 &&& fill (m.getLsbD 0)
  let p1 := (c0 ^^^ (d &&& fill (m.getLsbD 0))) &&& fill (m.getLsbD 1)
  let p3 := c1 &&& fill (m.getLsbD 3)
  ![p0, p1, ((d ^^^ p0) ^^^ p3) ^^^ p1, p3]

/-- Some position below `p` is kept. -/
def below (m : BitVec 4) : Fin 4 → Bool :=
  ![false, m.getLsbD 0, m.getLsbD 0 || m.getLsbD 1, m.getLsbD 0 || m.getLsbD 1 || m.getLsbD 2]

/-- The format's number at position `p` of a quad: nothing where the mask keeps nothing, the first code less 8 at the
    first kept position, the second code less 8 at the others. -/
def chosen (v : BitVec 8) (m : BitVec 4) (p : Fin 4) : Int :=
  if m.getLsbD p then (if below m p then (half v 1).toNat - 8 else (half v 0).toNat - 8) else 0

/-- Exactly two of the four bits of a mask nibble are set. -/
def two (m : BitVec 4) : Prop :=
  (m.getLsbD 0).toNat + (m.getLsbD 1).toNat + (m.getLsbD 2).toNat + (m.getLsbD 3).toNat = 2

instance (m : BitVec 4) : Decidable (two m) := by unfold two; infer_instance

/-- THE SELECTION: where the mask keeps exactly two positions, the kernel's number is the format's. -/
theorem decoded_eq : ∀ (v : BitVec 8) (m : BitVec 4) (p : Fin 4), two m → (decoded v m p).toInt = chosen v m p := by
  decide +kernel

end Cert.Nibble
-- ==== Proof.Weights.lean ====
/- What one contraction block of the kernel holds at an index: the decoded weight at row `64 p + q` of the block is the
   number of quad `q` at position `p`, times the quad's scale; and one step adds 256 products. -/
module

public import proofs.«01_k».proof.Proof.Step
public import proofs.«01_k».proof.Proof.Nibble
public import Idealize.ShloMosaic.Lib.BitcastFour
public import Idealize.ShloMosaic.Lib.Pointwise.IndexBridge

@[expose] public section

noncomputable section

namespace Cert.KernelIdeal.Steps

open Cert.KernelIdeal Cert.KernelIdeal.Gen Cert.Nibble Idealize.ShloMosaic

set_option maxRecDepth 16384

/-- Sixteen copies of a row, at an index. -/
theorem rows16_apply (r : FVec Ideal S1x512 .bf16) (q : Fin 16) (n : Fin 512) : rows16 r (ix2 q n) = r (ix2 0 n) := by
  have h : ∀ a : Fin 8, rows8 r (ix2 a n) = r (ix2 0 n) := by
    intro a
    pointwise [rows8]
    fin_vals a with ha <;> simp only [ha, Nat.reduceSub, Nat.reduceLT, ↓reduceDIte] <;> rfl
  pointwise [rows16]
  simp only [h, ite_self]

/-- The scale of quad `q`: the first scale row for the first 32 quads, the second for the others. -/
theorem scaleTile_apply (s : Vec Ideal S2x512 .bf16) (q : Fin 64) (n : Fin 512) (g : Fin 2) (hg : g.val = q.val / 32) :
    scaleTile s (ix2 q n) = s (ix2 g n) := by
  pointwise [scaleTile]
  simp only [rows16_apply]
  pointwise
  have e0 : q.val < 32 → (0 : Fin 2) = g := fun h => Fin.ext (by rw [hg]; simp; omega)
  have e1 : ¬ q.val < 32 → (1 : Fin 2) = g := fun h => Fin.ext (by rw [hg]; simp; omega)
  split_ifs
  · rw [e0 (by omega)]
  · rw [e0 (by omega)]
  · rw [e1 (by omega)]
  · rw [e1 (by omega)]

/-- The shift amount of nibble `k`, as a word and as a number. -/
theorem shift_toNat : ∀ k : Fin 8, (IntOp.muli (BitVec.ofNat 32 k.val) 4#32).toNat = 4 * k.val := by decide

/-- A shift down by that amount. -/
theorem shift_down (w : BitVec 32) (k : Fin 8) :
    IntOp.shrui .vector w (IntOp.muli (BitVec.ofNat 32 k.val) 4#32) = w >>> (4 * k.val) := by
  unfold IntOp.shrui
  rw [if_pos (by rw [shift_toNat]; omega), BitVec.ushiftRight_eq', shift_toNat]

/-- A shift up by that amount. -/
theorem shift_up (w : BitVec 32) (k : Fin 8) :
    IntOp.shli .vector w (IntOp.muli (BitVec.ofNat 32 k.val) 4#32) = w <<< (4 * k.val) := by
  unfold IntOp.shli
  rw [if_pos (by rw [shift_toNat]; omega), BitVec.shiftLeft_eq', shift_toNat]

/-- Row `q` of the unpacked numbers is nibble `q % 8` of word row `q / 8`. -/
theorem nibbles_apply (p : IVec S8x512 32) (q : Fin 64) (n : Fin 512) (r k : Fin 8) (h : q.val = 8 * r.val + k.val) :
    nibbles p (ix2 q n) = nib (p (ix2 r n)) k := by
  have hr : q.val / 8 = r.val := by omega
  have hk : q.val % 8 = k.val := by omega
  pointwise [nibbles, nibShift]
  simp only [hr, hk, shift_down]
  rfl

/-- A 4-bit number widened with its sign and masked to four bits is the number widened with zeros. -/
theorem low_four : ∀ a : BitVec 4, IntOp.andi (a.signExtend 32) 15#32 = a.setWidth 32 := by decide +kernel

/-- Nibble `k` of a packed word: the low nibble of its row, its top bit flipped. -/
theorem codeWord_apply (v : Vec Ideal S64x512 .i8) (q : Fin 64) (n : Fin 512) (r k : Fin 8) (h : q.val = 8 * r.val + k.val) :
    nib (codeWord (F := Ideal) v (ix2 r n)) k = half (v (ix2 q n)) 0 ^^^ 8#4 := by
  pointwise [codeWord, nibShift]
  simp only [shift_up, low_four]
  rw [show ∀ a b : BitVec 32, IntOp.xori a b = a ^^^ b from fun _ _ => rfl, nib_xor, nib_eights,
    nib_sum (fun x : Fin 8 => BitVec.setWidth 4 (v (ix2 ⟨r.val * 8 + x.val, by omega⟩ n))) k]
  have e : (⟨r.val * 8 + k.val, by omega⟩ : Fin 64) = q := Fin.ext (by simp only; omega)
  rw [e]
  congr 1

/-- The low nibble of a byte brought down is the byte's high nibble. -/
theorem highNibbles_apply (v : Vec Ideal S64x512 .i8) (q : Fin 64) (n : Fin 512) :
    half (highNibbles (F := Ideal) v (ix2 q n)) 0 = half (v (ix2 q n)) 1 := by
  apply BitVec.eq_of_getLsbD_eq
  intro i hi
  unfold half highNibbles
  have hr : q.val / 4 < 16 := by omega
  simp only [BitVec.getLsbD_setWidth, BitVec.getLsbD_ushiftRight, hi, decide_true, Bool.true_and, Nat.mul_zero, Nat.zero_add,
    Nat.mul_one]
  rw [ix2_eq_valueIdx, bitcast_getLsbD _ _ _ i (by omega) (by decide)]
  have row : Shape.row (s := S64x512) (ValueIdx.ix2 q n) = q.val := rfl
  have src : ∀ hp, bitcasts_S16x512_w32_S64x512_w8.srcIdx (ValueIdx.ix2 q n) ((Shape.row (s := S64x512) (ValueIdx.ix2 q n) * 8 + i) / 32) hp
      = ValueIdx.ix2 (⟨q.val / 4, hr⟩ : Fin 16) n := by
    intro hp
    funext c
    match c with
    | ⟨0, _⟩ =>
      refine Fin.ext ((bitcasts_S16x512_w32_S64x512_w8.srcIdx_row _ _ _ ⟨0, Nat.zero_lt_two⟩ rfl).trans ?_)
      rw [row]
      show (q.val * 8 + i) / 32 = q.val / 4
      omega
    | ⟨1, _⟩ => exact Fin.ext (bitcasts_S16x512_w32_S64x512_w8.srcIdx_other _ _ _ ⟨1, Nat.one_lt_two⟩ (by show ¬ 1 + 2 = 2; omega))
  rw [src, row]
  show (IntOp.shrui .vector (bitcast S16x512 32 v bitcasts_S64x512_w8_S16x512_w32 (ValueIdx.ix2 (⟨q.val / 4, hr⟩ : Fin 16) n)) 4#32).getLsbD ((q.val * 8 + i) % 32) = _
  rw [show ∀ w : BitVec 32, IntOp.shrui .vector w 4#32 = w >>> 4 from fun _ => rfl, BitVec.getLsbD_ushiftRight]
  rw [bitcast_8_32_getLsbD_ix2 v bitcasts_S64x512_w8_S16x512_w32 ⟨q.val / 4, hr⟩ n (4 + (q.val * 8 + i) % 32) (by omega) q (by simp only; omega)]
  congr 1
  omega

/-- Bit `4 k + i` of mask word row `r` is bit `4 h + i` of the byte that holds quad `8 r + k`. -/
theorem maskWord_apply (m : Vec Ideal S32x512 .i8) (n : Fin 512) (r k : Fin 8) (b : Fin 32) (i : Nat) (hi : i < 4)
    (hb : b.val = 4 * r.val + k.val / 2) :
    (maskWord (F := Ideal) m (ix2 r n)).getLsbD (4 * k.val + i) = (half (m (ix2 b n)) (k.val % 2)).getLsbD i := by
  unfold maskWord half
  simp only [BitVec.getLsbD_setWidth, BitVec.getLsbD_ushiftRight, hi, decide_true, Bool.true_and]
  rw [ix2_eq_valueIdx, bitcast_8_32_getLsbD_ix2 m bitcasts_S32x512_w8_S8x512_w32 r n (4 * k.val + i) (by omega) b (by omega),
    ix2_eq_valueIdx]
  congr 1
  omega

/-- Bit 0 of the mask of quad `8 r + k`, spread over its nibble. -/
theorem spread0_apply (m : Vec Ideal S32x512 .i8) (n : Fin 512) (r k : Fin 8) (b : Fin 32) (hb : b.val = 4 * r.val + k.val / 2) :
    nib (spread0 (maskWord (F := Ideal) m) (ix2 r n)) k = fill ((half (m (ix2 b n)) (k.val % 2)).getLsbD 0) := by
  have e := maskWord_apply m n r k b 0 (by decide) hb
  rw [← e]
  exact nib_low_bits (maskWord (F := Ideal) m (ix2 r n)) k

/-- Bit `p` of the mask of quad `8 r + k`, spread over its nibble. -/
theorem spread_apply (m : Vec Ideal S32x512 .i8) (n : Fin 512) (r k : Fin 8) (b : Fin 32) (hb : b.val = 4 * r.val + k.val / 2)
    (w : BitVec 32) (p : Nat) (hw : w.toNat = p) (hp : p < 4) :
    nib (spread (maskWord (F := Ideal) m) w (ix2 r n)) k = fill ((half (m (ix2 b n)) (k.val % 2)).getLsbD p) := by
  have e := maskWord_apply m n r k b p hp hb
  have s : IntOp.shrui .vector (maskWord (F := Ideal) m (ix2 r n)) w = maskWord (F := Ideal) m (ix2 r n) >>> p := by
    unfold IntOp.shrui
    rw [if_pos (by omega), BitVec.ushiftRight_eq', hw]
  have l := nib_low_bits (maskWord (F := Ideal) m (ix2 r n) >>> p) k
  rw [BitVec.getLsbD_ushiftRight, show p + 4 * k.val = 4 * k.val + p from Nat.add_comm _ _, e, ← s] at l
  exact l

/-- A quad position's row: the number times the scale. -/
theorem scaled_apply (w : IVec S8x512 32) (s : Vec Ideal S2x512 .bf16) (q : Fin 64) (n : Fin 512) (r k : Fin 8) (g : Fin 2)
    (h : q.val = 8 * r.val + k.val) (hg : g.val = q.val / 32) :
    scaled w (scaleTile s) (ix2 q n) = (((nib (w (ix2 r n)) k).toInt : ℝ) : EReal) * s (ix2 g n) := by
  pointwise [scaled]
  rw [nibbles_apply w q n r k h, scaleTile_apply s q n g hg]
  rfl

/-- Four blocks of 64 rows one under the other, at row `64 p + q`: row `q` of block `p`. -/
theorem stack4_apply (x0 x1 x2 x3 : FVec Ideal S64x512 .bf16) (p : Fin 4) (q : Fin 64) (n : Fin 512) (ρ : Fin 256)
    (hρ : ρ.val = 64 * p.val + q.val) :
    concatenate S256x512 0 [⟨S64x512, x0⟩, ⟨S64x512, x1⟩, ⟨S64x512, x2⟩, ⟨S64x512, x3⟩] concatenates_S64x512_S64x512_S64x512_S64x512_S256x512_d0 (ix2 ρ n)
      = (![x0, x1, x2, x3] : Fin 4 → FVec Ideal S64x512 .bf16) p (ix2 q n) := by
  have at_ : ∀ (x : FVec Ideal S64x512 .bf16) (q' : Fin 64), q'.val = q.val → x (ix2 q' n) = x (ix2 q n) :=
    fun x q' h => by rw [Fin.ext h]
  pointwise
  fin_cases p <;> simp only [Nat.mul_zero, Nat.mul_one, Nat.reduceMul] at hρ
  · rw [dif_pos (by omega)]
    exact at_ x0 _ (by simp only; omega)
  · rw [dif_neg (by omega), dif_pos (by omega)]
    exact at_ x1 _ (by simp only; omega)
  · rw [dif_neg (by omega), dif_neg (by omega), dif_pos (by omega)]
    exact at_ x2 _ (by simp only; omega)
  · rw [dif_neg (by omega), dif_neg (by omega), dif_neg (by omega)]
    exact at_ x3 _ (by simp only; omega)

/-- THE DECODED WEIGHT: row `64 p + q` of the block is the number of quad `q` at position `p`, times the quad's scale. -/
theorem weights_apply (v : Vec Ideal S64x512 .i8) (m : Vec Ideal S32x512 .i8) (s : Vec Ideal S2x512 .bf16) (p : Fin 4)
    (q : Fin 64) (n : Fin 512) (b : Fin 32) (g : Fin 2) (hb : b.val = q.val / 2) (hg : g.val = q.val / 32)
    (ρ : Fin 256) (hρ : ρ.val = 64 * p.val + q.val) :
    weights v m s (ix2 ρ n)
      = (((decoded (v (ix2 q n)) (half (m (ix2 b n)) (q.val % 2)) p).toInt : ℝ) : EReal) * s (ix2 g n) := by
  obtain ⟨r, k, hq⟩ : ∃ r k : Fin 8, q.val = 8 * r.val + k.val :=
    ⟨⟨q.val / 8, by omega⟩, ⟨q.val % 8, by omega⟩, by simp only; omega⟩
  have hb' : b.val = 4 * r.val + k.val / 2 := by omega
  have hm : q.val % 2 = k.val % 2 := by omega
  have c0 := codeWord_apply v q n r k hq
  have c1 := (codeWord_apply (highNibbles (F := Ideal) v) q n r k hq).trans (congrArg (· ^^^ 8#4) (highNibbles_apply v q n))
  have m0 := spread0_apply m n r k b hb'
  have m1 := spread_apply m n r k b hb' 1#32 1 rfl (by decide)
  have m3 := spread_apply m n r k b hb' 3#32 3 rfl (by decide)
  have xa : ∀ (a c : IVec S8x512 32), nib (andi a c (ix2 r n)) k = nib (a (ix2 r n)) k &&& nib (c (ix2 r n)) k :=
    fun a c => nib_and _ _ _
  have xx : ∀ (a c : IVec S8x512 32), nib (xori a c (ix2 r n)) k = nib (a (ix2 r n)) k ^^^ nib (c (ix2 r n)) k :=
    fun a c => nib_xor _ _ _
  unfold weights
  rw [stack4_apply _ _ _ _ p q n ρ hρ, hm]
  fin_cases p
  all_goals
    refine (scaled_apply _ s q n r k g hq hg).trans ?_
    simp only [xa, xx, c0, c1, m0, m1, m3]
    rfl

/-- One step at an index. -/
theorem step_apply (acc : FVec Ideal S48x512 .f32) (x : Vec Ideal S48x256 .bf16) (v : Vec Ideal S64x512 .i8)
    (m : Vec Ideal S32x512 .i8) (s : Vec Ideal S2x512 .bf16) (b : Fin 48) (n : Fin 512) :
    step acc x v m s (ix2 b n) = acc (ix2 b n) + ∑ ρ : Fin 256, x (ix2 b ρ) * weights v m s (ix2 ρ n) := by
  pointwise [step]

end Cert.KernelIdeal.Steps

end
-- ==== Proof.Product.lean ====
/- The common value of the two programs: the product of `x` with the decoded weights, as one double sum over the quads of
   the contraction axis and the four positions of a quad. -/
module

public import proofs.«01_k».proof.Proof.Nibble

@[expose] public section

noncomputable section

namespace Cert.Product

open Idealize.ShloMosaic Cert.Nibble

/-- `x`: 48 rows of one position each, 5120 columns. -/
abbrev X : Type := (⟨3, ![48, 1, 5120]⟩ : Shape).Idx → EReal
/-- The packed codes: one byte of two 4-bit codes a quad. -/
abbrev V : Type := (⟨2, ![1280, 14336]⟩ : Shape).Idx → BitVec 8
/-- The packed masks: one byte of two mask nibbles every two quads. -/
abbrev M : Type := (⟨2, ![640, 14336]⟩ : Shape).Idx → BitVec 8
/-- The scales: one every 32 quads. -/
abbrev S : Type := (⟨2, ![40, 14336]⟩ : Shape).Idx → EReal

/-- The decoded weight of quad `Q` at position `p`, output column `n`. -/
def weight (v : V) (m : M) (s : S) (Q : Fin 1280) (p : Fin 4) (n : Fin 14336) : EReal :=
  (((chosen (v (ix2 Q n)) (half (m (ix2 (⟨Q.val / 2, by omega⟩ : Fin 640) n)) (Q.val % 2)) p : Int) : ℝ) : EReal)
    * s (ix2 (⟨Q.val / 32, by omega⟩ : Fin 40) n)

/-- One product of the contraction: column `4 Q + p` of `x` and the weight of quad `Q` at position `p`. -/
def term (x : X) (v : V) (m : M) (s : S) (b : Fin 48) (n : Fin 14336) (Q : Fin 1280) (p : Fin 4) : EReal :=
  x (ix3 b 0 (⟨4 * Q.val + p.val, by omega⟩ : Fin 5120)) * weight v m s Q p n

/-- The product at an output index: the sum over all quads and positions. -/
def product (x : X) (v : V) (m : M) (s : S) (b : Fin 48) (n : Fin 14336) : EReal :=
  ∑ p : Fin 4, ∑ Q : Fin 1280, term x v m s b n Q p

/-- Every mask nibble keeps exactly two of its four positions. -/
def TwoOfFour (m : M) : Prop := ∀ (t : Fin 640) (n : Fin 14336) (h : Fin 2), two (half (m (ix2 t n)) h)

/-- A sum over `J * K` places is a double sum over `J` blocks of `K` places. -/
theorem sum_blocks (J K N : Nat) (hN : N = J * K) (f : Fin N → EReal) :
    ∑ i : Fin N, f i = ∑ j : Fin J, ∑ k : Fin K, f ⟨K * j.val + k.val, by
      have := j.isLt; have := k.isLt; subst hN
      calc K * j.val + k.val < K * j.val + K := by omega
        _ = K * (j.val + 1) := by ring
        _ ≤ K * J := Nat.mul_le_mul_left _ (by omega)
        _ = J * K := Nat.mul_comm _ _⟩ := by
  subst hN
  rw [← finProdFinEquiv.sum_comp, Fintype.sum_prod_type]
  refine Finset.sum_congr rfl fun j _ => Finset.sum_congr rfl fun k _ => congrArg f (Fin.ext ?_)
  simp [finProdFinEquiv, Nat.add_comm]

/-- The product, block by block of 64 quads, as the kernel adds it. -/
theorem product_blocks (x : X) (v : V) (m : M) (s : S) (b : Fin 48) (n : Fin 14336) :
    product x v m s b n
      = ∑ j : Fin 20, ∑ p : Fin 4, ∑ q : Fin 64, term x v m s b n ⟨64 * j.val + q.val, by omega⟩ p := by
  rw [Finset.sum_comm]
  exact Finset.sum_congr rfl fun p _ => sum_blocks 20 64 1280 rfl fun Q => term x v m s b n Q p

/-- The product, first the even quads and then the odd ones, as the reference adds it. -/
theorem product_halves (x : X) (v : V) (m : M) (s : S) (b : Fin 48) (n : Fin 14336) :
    product x v m s b n
      = ∑ h : Fin 2, ∑ p : Fin 4, ∑ t : Fin 640, term x v m s b n ⟨2 * t.val + h.val, by omega⟩ p := by
  rw [Finset.sum_comm]
  refine Finset.sum_congr rfl fun p _ => ?_
  rw [Finset.sum_comm]
  exact sum_blocks 640 2 1280 rfl fun Q => term x v m s b n Q p

end Cert.Product

end
-- ==== Proof.Tile.lean ====
/- The stored tile at an index. `chain` is the 20-fold composition of `step` as a recursion over the blocks; when the four
   tiles a grid point loads are the blocks of the four arrays at output column `n`, the chain at that column is the
   product. -/
module

public import proofs.«01_k».proof.Proof.Weights
public import proofs.«01_k».proof.Proof.Product
public import Idealize.ShloMosaic.Lib.Pipeline.ValueKit

@[expose] public section

noncomputable section

namespace Cert.KernelIdeal.Steps

open Cert.KernelIdeal Cert.KernelIdeal.Gen Idealize.ShloMosaic Cert.Nibble Cert.Product

section chain

variable {F : FTy → Type} [FloatOps F]

/-- The accumulator after the first `j` blocks of the contraction axis. -/
def chain (x0 : Vec F S48x5120 .bf16) (x1 : Vec F S1280x512 .i8) (x2 : Vec F S640x512 .i8) (x3 : Vec F S40x512 .bf16) :
    (j : Nat) → j ≤ 20 → FVec F S48x512 .f32
  | 0, _ => zero
  | j + 1, h => step (chain x0 x1 x2 x3 j (by omega))
      (View.ld x0 (Rect.unit (s := S48x5120) ![0, 256 * j] S48x256.size (by intro a; fin_cases a <;> simp [Shape.size] <;> omega)))
      (View.ld x1 (Rect.unit (s := S1280x512) ![64 * j, 0] S64x512.size (by intro a; fin_cases a <;> simp [Shape.size] <;> omega)))
      (View.ld x2 (Rect.unit (s := S640x512) ![32 * j, 0] S32x512.size (by intro a; fin_cases a <;> simp [Shape.size] <;> omega)))
      (View.ld x3 (Rect.unit (s := S40x512) ![2 * j, 0] S2x512.size (by intro a; fin_cases a <;> simp [Shape.size] <;> omega)))

/-- The stored tile is the chain over all 20 blocks, rounded. -/
theorem out_chain (x0 : Vec F S48x5120 .bf16) (x1 : Vec F S1280x512 .i8) (x2 : Vec F S640x512 .i8) (x3 : Vec F S40x512 .bf16) :
    out0_4 x0 x1 x2 x3 = View.canon [⟨r0_80, truncf .bf16 (chain x0 x1 x2 x3 20 le_rfl) bitsLt_bf16_f32⟩] := by
  rw [out_eq]
  simp only [chain]

end chain

/-- One step adds its block of the product, when the slices it loads are that block of the arrays. -/
theorem step_term (x : X) (v : V) (m : M) (s : S) (hm : TwoOfFour m) (j : Fin 20) (n : Fin 14336) (l : Fin 512)
    (acc : FVec Ideal S48x512 .f32) (xs : FVec Ideal S48x256 .bf16) (vs : Vec Ideal S64x512 .i8) (ms : Vec Ideal S32x512 .i8)
    (ss : Vec Ideal S2x512 .bf16) (b : Fin 48)
    (hx : ∀ (p : Fin 4) (q : Fin 64), xs (ix2 b (⟨64 * p.val + q.val, by omega⟩ : Fin 256))
      = x (ix3 b 0 (⟨4 * (64 * j.val + q.val) + p.val, by omega⟩ : Fin 5120)))
    (hv : ∀ q : Fin 64, vs (ix2 q l) = v (ix2 (⟨64 * j.val + q.val, by omega⟩ : Fin 1280) n))
    (hk : ∀ i : Fin 32, ms (ix2 i l) = m (ix2 (⟨32 * j.val + i.val, by omega⟩ : Fin 640) n))
    (hs : ∀ g : Fin 2, ss (ix2 g l) = s (ix2 (⟨2 * j.val + g.val, by omega⟩ : Fin 40) n)) :
    step acc xs vs ms ss (ix2 b l)
      = acc (ix2 b l) + ∑ p : Fin 4, ∑ q : Fin 64, term x v m s b n ⟨64 * j.val + q.val, by omega⟩ p := by
  rw [step_apply, sum_blocks 4 64 256 rfl]
  refine congrArg (acc (ix2 b l) + ·) (Finset.sum_congr rfl fun p _ => Finset.sum_congr rfl fun q _ => ?_)
  rw [weights_apply vs ms ss p q l ⟨q.val / 2, by omega⟩ ⟨q.val / 32, by omega⟩ rfl rfl _ rfl, hx p q, hv q, hk, hs]
  have e2 : (64 * j.val + q.val) / 2 = 32 * j.val + q.val / 2 := by omega
  have em : (64 * j.val + q.val) % 2 = q.val % 2 := by omega
  have e32 : (64 * j.val + q.val) / 32 = 2 * j.val + q.val / 32 := by omega
  rw [decoded_eq _ _ _ (hm _ n ⟨q.val % 2, by omega⟩)]
  simp only [term, weight, e2, em, e32]

/-- The chain at an output column, when the tiles are the arrays' blocks there: the sum of the first blocks. -/
theorem chain_apply (x : X) (v : V) (m : M) (s : S) (hm : TwoOfFour m) (n : Fin 14336) (l : Fin 512) (b : Fin 48)
    (x0 : Vec Ideal S48x5120 .bf16) (x1 : Vec Ideal S1280x512 .i8) (x2 : Vec Ideal S640x512 .i8) (x3 : Vec Ideal S40x512 .bf16)
    (hx : ∀ (j : Fin 20) (p : Fin 4) (q : Fin 64), x0 (ix2 b (⟨256 * j.val + (64 * p.val + q.val), by omega⟩ : Fin 5120))
      = x (ix3 b 0 (⟨4 * (64 * j.val + q.val) + p.val, by omega⟩ : Fin 5120)))
    (hv : ∀ Q : Fin 1280, x1 (ix2 Q l) = v (ix2 Q n)) (hk : ∀ t : Fin 640, x2 (ix2 t l) = m (ix2 t n))
    (hs : ∀ g : Fin 40, x3 (ix2 g l) = s (ix2 g n)) (J : Nat) (hJ : J ≤ 20) :
    chain x0 x1 x2 x3 J hJ (ix2 b l)
      = ∑ j : Fin J, ∑ p : Fin 4, ∑ q : Fin 64, term x v m s b n ⟨64 * j.val + q.val, by omega⟩ p := by
  induction J with
  | zero => exact Ideal.ofBits_zero_f32
  | succ J ih =>
    rw [Fin.sum_univ_castSucc]
    have e := ih (by omega)
    refine (step_term x v m s hm ⟨J, by omega⟩ n l _ _ _ _ _ b ?_ ?_ ?_ ?_).trans (congrArg (· + _) e)
    · exact fun p q => (View.ld_unit_apply_of x0 _ _ _ _ (ix2 b (⟨256 * J + (64 * p.val + q.val), by omega⟩ : Fin 5120))
        (by intro a; fin_cases a <;> simp [ix2])).trans (hx ⟨J, by omega⟩ p q)
    · exact fun q => (View.ld_unit_apply_of x1 _ _ _ _ (ix2 (⟨64 * J + q.val, by omega⟩ : Fin 1280) l)
        (by intro a; fin_cases a <;> simp [ix2])).trans (hv _)
    · exact fun i => (View.ld_unit_apply_of x2 _ _ _ _ (ix2 (⟨32 * J + i.val, by omega⟩ : Fin 640) l)
        (by intro a; fin_cases a <;> simp [ix2])).trans (hk _)
    · exact fun g => (View.ld_unit_apply_of x3 _ _ _ _ (ix2 (⟨2 * J + g.val, by omega⟩ : Fin 40) l)
        (by intro a; fin_cases a <;> simp [ix2])).trans (hs _)

end Cert.KernelIdeal.Steps

end
-- ==== Proof.Result.lean ====
/- The result array of the idealized kernel: the product of the four argument arrays, index by index. -/
module

public import proofs.«01_k».proof.Proof.Tile
public import Idealize.ShloMosaic.Lib.Claim
public import Idealize.ShloMosaic.Lib.Pointwise

@[expose] public section

noncomputable section

namespace Cert.KernelIdeal.Steps

open Cert.KernelIdeal Cert.KernelIdeal.Gen Cert.KernelIdeal.Value Idealize.ShloMosaic Idealize.ShloMosaic.TcCoe Cert.Nibble Cert.Product
open Idealize.ShloMosaic.Pipeline (Dat)

variable (m : (ℓ : Loc nD τ sig) → Buf (Elt Ideal) ℓ) (c : Dev nD)

/-- The launch contents of `x`. -/
abbrev argX : X := m ((c : Thread nD τ).loc main_arg0)
/-- The launch contents of the packed codes. -/
abbrev argV : Product.V := m ((c : Thread nD τ).loc main_arg1)
/-- The launch contents of the packed masks. -/
abbrev argM : Product.M := m ((c : Thread nD τ).loc main_arg2)
/-- The launch contents of the scales. -/
abbrev argS : S := m ((c : Thread nD τ).loc main_arg3)

/-- The block index of every window at a grid point. -/
theorem idx : ∀ t : Fin cfg0.N, win0_0.index t = ![0, 0] ∧ win0_1.index t = ![0, t.val] ∧ win0_2.index t = ![0, t.val]
    ∧ win0_3.index t = ![0, t.val] ∧ win0_4.index t = ![0, t.val] := by decide +kernel

/-- The tile of `x` at a grid point: position-major within each block of 64 quads. -/
theorem tile0 (t : Fin cfg0.N) (b : Fin 48) (j : Fin 20) (p : Fin 4) (q : Fin 64) :
    iblk m c 0 t (ix2 b (⟨256 * j.val + (64 * p.val + q.val), by omega⟩ : Fin 5120))
      = argX m c (ix3 b 0 (⟨4 * (64 * j.val + q.val) + p.val, by omega⟩ : Fin 5120)) := by
  have e : iblk m c 0 t (ix2 b (⟨256 * j.val + (64 * p.val + q.val), by omega⟩ : Fin 5120))
      = (V m c main_v2 : S48x5120.Idx → EReal) (ix2 b (⟨256 * j.val + (64 * p.val + q.val), by omega⟩ : Fin 5120)) := by
    blk_ext [iblk, idx t]
  rw [e]
  entry_read
  pointwise []
  dsimp only [argX]
  exact congrArg _ (congrArg (ix3 b 0) (Fin.ext (by show j.val * 256 + q.val * 4 + p.val = 4 * (64 * j.val + q.val) + p.val; omega)))

/-- The tile of the codes at a grid point. -/
theorem tile1 (t : Fin cfg0.N) (Q : Fin 1280) (l : Fin 512) (n : Fin 14336) (hn : n.val = 512 * t.val + l.val) :
    iblk m c 1 t (ix2 Q l) = argV m c (ix2 Q n) := by
  have e : iblk m c 1 t (ix2 Q l) = (V m c main_arg1 : S1280x14336.Idx → BitVec 8) (ix2 Q n) := by
    blk_ext [iblk, idx t]
  exact e.trans (congrFun (V_main_arg1 m c) _)

/-- The tile of the masks at a grid point. -/
theorem tile2 (t : Fin cfg0.N) (Q : Fin 640) (l : Fin 512) (n : Fin 14336) (hn : n.val = 512 * t.val + l.val) :
    iblk m c 2 t (ix2 Q l) = argM m c (ix2 Q n) := by
  have e : iblk m c 2 t (ix2 Q l) = (V m c main_arg2 : S640x14336.Idx → BitVec 8) (ix2 Q n) := by
    blk_ext [iblk, idx t]
  exact e.trans (congrFun (V_main_arg2 m c) _)

/-- The tile of the scales at a grid point. -/
theorem tile3 (t : Fin cfg0.N) (g : Fin 40) (l : Fin 512) (n : Fin 14336) (hn : n.val = 512 * t.val + l.val) :
    iblk m c 3 t (ix2 g l) = argS m c (ix2 g n) := by
  have e : iblk m c 3 t (ix2 g l) = (V m c main_arg3 : S40x14336.Idx → EReal) (ix2 g n) := by
    blk_ext [iblk, idx t]
  exact e.trans (congrFun (V_main_arg3 m c) _)

/-- The result array after the run is the product of the arguments. -/
theorem result_eq (hm : TwoOfFour (argM m c)) :
    (dats m 0 c).arrAt 4 cfg0.N
      = fun i : S48x14336.Idx => product (argX m c) (argV m c) (argM m c) (argS m c) (i 0) (i 1) := by
  refine (dats m 0 c).arrAt_eq_of_covers 4 _ (by decide +kernel) fun t hf y => ?_
  blk_simp
  rw [after0_4, out_chain, View.canon_unit_zero (by funext a; fin_cases a <;> rfl)]
  have e0 : (win0_4.blk t).view.emb y 0 = (y 0 : Fin 48) := Fin.ext (by blk_simp [idx t])
  have ht : t.val < 28 := t.isLt
  have hl : (y 1).val < 512 := (y 1).isLt
  have e1 : (win0_4.blk t).view.emb y 1 = (⟨512 * t.val + (y 1).val, by omega⟩ : Fin 14336) := Fin.ext (by
    blk_simp [idx t]
    show t.val * 512 + (y 1).val = 512 * t.val + (y 1).val
    omega)
  have ey : y = ix2 (y 0 : Fin 48) (y 1 : Fin 512) := by funext a; fin_cases a <;> rfl
  have hc := chain_apply (argX m c) (argV m c) (argM m c) (argS m c) hm ⟨512 * t.val + (y 1).val, by omega⟩ (y 1) (y 0) _ _ _ _
    (fun j p q => tile0 m c t _ j p q) (fun Q => tile1 m c t Q _ _ rfl) (fun Q => tile2 m c t Q _ _ rfl)
    (fun g => tile3 m c t g _ _ rfl) 20 le_rfl
  have hp := hc.trans (product_blocks (argX m c) (argV m c) (argM m c) (argS m c) (y 0) ⟨512 * t.val + (y 1).val, by omega⟩).symm
  rw [e0, e1]
  exact (congrArg (chain (iblk m c 0 t) (iblk m c 1 t) (iblk m c 2 t) (iblk m c 3 t) 20 le_rfl) ey).trans hp

end Cert.KernelIdeal.Steps

end
-- ==== Proof.Mask.lean ====
/- The precondition, read: the function `two_of_four` is all ones exactly when both nibbles of every mask byte keep two of
   their four positions. -/
module

public import proofs.«01_k».proof.Proof.Product
public import proofs.«01_k».proof.Proof.Gen.Pre_two_of_four
public import Idealize.ShloMosaic.Lib.Pointwise

@[expose] public section

noncomputable section

namespace Cert.Pre_two_of_four

open Idealize.ShloMosaic Cert.Nibble Cert.Product

/-- What the precondition computes of one mask byte. -/
def nibblesOk (b : BitVec 8) : BitVec 1 :=
  let w := b.setWidth 32
  let bit (i : Nat) : BitVec 32 := (w.sshiftRight i) &&& 1#32
  BitVec.ofBool (bit 0 + bit 1 + bit 2 + bit 3 == 2#32) &&& BitVec.ofBool (bit 4 + bit 5 + bit 6 + bit 7 == 2#32)

/-- A byte passes only when each of its nibbles has exactly two bits set. -/
theorem two_of_ok : ∀ (b : BitVec 8) (h : Fin 2), nibblesOk b = 1#1 → two (half b h) := by
  unfold nibblesOk two half; decide +kernel

/-- The precondition gives the two kept positions of every mask nibble. -/
theorem twoOfFour (x0 : FVec Ideal S48x1x5120 .bf16) (x1 : IVec S1280x14336 8) (x2 : IVec S640x14336 8)
    (x3 : FVec Ideal S40x14336 .bf16) (h : fn (F := Ideal) x0 x1 x2 x3 = fun _ => 1#1) : TwoOfFour x2 := by
  intro t n k
  refine two_of_ok _ k ?_
  rw [← congrFun h (ix2 t n)]
  unfold fn fn_part1 fn_part2 nibblesOk
  pointwise []
  rfl

end Cert.Pre_two_of_four

end
-- ==== Proof.Reference.lean ====
/- The reference's result at an index is the product of Proof/Product.lean. -/
module

public import proofs.«01_k».proof.Proof.Gen.ReferenceIdeal.Run
public import proofs.«01_k».proof.Proof.Product
public import Idealize.ShloMosaic.Lib.Tactic.CleanTypes

@[expose] public section

noncomputable section

namespace Cert.ReferenceIdeal.Tie

open Cert.ReferenceIdeal Cert.ReferenceIdeal.Value Idealize.ShloMosaic Cert.Nibble Cert.Product

set_option maxRecDepth 16384

/-- The bf16 pattern `0x4100` is the real 8. -/
theorem eight : Ideal.ofBits .bf16 0x4100#16 = ((8 : ℝ) : EReal) := by
  simp [Ideal.ofBits, Ideal.ieee, -EReal.coe_mul]; norm_num

/-- The low code of a byte, as the reference reads it. -/
theorem low_code : ∀ b : BitVec 8, (IntOp.andi (b.setWidth 32) 15#32).toInt = (half b 0).toNat := by decide +kernel

/-- The high code of a byte, as the reference reads it. -/
theorem high_code : ∀ b : BitVec 8,
    (IntOp.andi (IntOp.shrsi .host (b.setWidth 32) 4#32) 15#32).toInt = (half b 1).toNat := by decide +kernel

/-- A mask bit, as the reference reads it. -/
theorem mask_bit : ∀ (h : Fin 2) (p : Fin 4) (b : BitVec 8),
    IntOp.cmpi .eq (IntOp.andi (IntOp.shrsi .host (b.setWidth 32) (BitVec.ofNat 32 (4 * h.val + p.val))) 1#32) 1#32
      = BitVec.ofBool ((half b h).getLsbD p) := by decide +kernel

/-- A code less 8, as an extended real. -/
def code (c : BitVec 4) : EReal := (((c.toNat : ℝ) - 8 : ℝ) : EReal)

/-- One product of the reference, the selection moved out of it: nothing where the mask keeps nothing, else the column of `x`
    times the first or the second code of the quad, less 8, times the scale. -/
theorem pick (x s c0 c1 : EReal) (k l : BitVec 1) (v : BitVec 8) (m : BitVec 4) (p : Fin 4)
    (hk : k = BitVec.ofBool (m.getLsbD p)) (hl : l = BitVec.ofBool (below m p))
    (h0 : c0 = code (half v 0) * s) (h1 : c1 = code (half v 1) * s) :
    Scalar.select (~~~k) 0 (x * Scalar.select (~~~l) c0 c1) = x * ((((chosen v m p : Int) : ℝ) : EReal) * s) := by
  subst hk hl h0 h1
  unfold chosen code
  cases m.getLsbD p
  · simp [Scalar.select]
  · cases below m p <;> simp [Scalar.select]

variable (V0 : Valuation τ sig (Elt Ideal)) (t : Fin 640) (n : Fin 14336)

/-- The reference's arguments as functions of an index. -/
abbrev cols : X := V0 (Proc.devRef .tc main_arg0)
abbrev vals : V := V0 (Proc.devRef .tc main_arg1)
abbrev masks : M := V0 (Proc.devRef .tc main_arg2)
abbrev scales : S := V0 (Proc.devRef .tc main_arg3)

/-- A code word read as a number, less 8, times the scale. -/
theorem tie (h : Nat) (w : BitVec 32) (Q Q' : Fin 1280) (hQ : Q = Q')
    (hw : w.toInt = (half (vals V0 (ix2 Q n)) h).toNat) :
    (FloatOps.sitofp (F := Ideal) FTy.bf16 w - ((8 : ℝ) : EReal)) * scales V0 (ix2 (⟨t.val / 16, by omega⟩ : Fin 40) n)
      = code (half (vals V0 (ix2 Q' n)) h) * scales V0 (ix2 (⟨t.val / 16, by omega⟩ : Fin 40) n) := by
  subst hQ
  unfold code
  rw [EReal.coe_sub]
  congr 2
  exact (congrArg (fun z : Int => ((z : ℝ) : EReal)) hw).trans (by simp)

/-- The first codes of the even quads, less 8, times the scales. -/
theorem code0_even : (res_main_v24 V0 : S640x14336.Idx → EReal) (ix2 t n)
    = code (half (vals V0 (ix2 (⟨2 * t.val + 0, by omega⟩ : Fin 1280) n)) 0) * scales V0 (ix2 (⟨t.val / 16, by omega⟩ : Fin 40) n) := by
  unfold res_main_v24 res_main_v15 res_main_v10 res_main_v1
  clean_types
  pointwise
  rw [eight]
  exact tie V0 t n 0 _ _ _ (Fin.ext (by simp only; omega)) (low_code _)

/-- The second codes of the even quads, less 8, times the scales. -/
theorem code1_even : (res_main_v26 V0 : S640x14336.Idx → EReal) (ix2 t n)
    = code (half (vals V0 (ix2 (⟨2 * t.val + 0, by omega⟩ : Fin 1280) n)) 1) * scales V0 (ix2 (⟨t.val / 16, by omega⟩ : Fin 40) n) := by
  unfold res_main_v26 res_main_v20 res_main_v10 res_main_v1
  clean_types
  pointwise
  rw [eight]
  exact tie V0 t n 1 _ _ _ (Fin.ext (by simp only; omega)) (high_code _)

/-- The first codes of the odd quads, less 8, times the scales. -/
theorem code0_odd : (res_main_v88 V0 : S640x14336.Idx → EReal) (ix2 t n)
    = code (half (vals V0 (ix2 (⟨2 * t.val + 1, by omega⟩ : Fin 1280) n)) 0) * scales V0 (ix2 (⟨t.val / 16, by omega⟩ : Fin 40) n) := by
  unfold res_main_v88 res_main_v15 res_main_v10 res_main_v1
  clean_types
  pointwise
  rw [eight]
  exact tie V0 t n 0 _ _ _ (Fin.ext (by simp only; omega)) (low_code _)

/-- The second codes of the odd quads, less 8, times the scales. -/
theorem code1_odd : (res_main_v90 V0 : S640x14336.Idx → EReal) (ix2 t n)
    = code (half (vals V0 (ix2 (⟨2 * t.val + 1, by omega⟩ : Fin 1280) n)) 1) * scales V0 (ix2 (⟨t.val / 16, by omega⟩ : Fin 40) n) := by
  unfold res_main_v90 res_main_v20 res_main_v10 res_main_v1
  clean_types
  pointwise
  rw [eight]
  exact tie V0 t n 1 _ _ _ (Fin.ext (by simp only; omega)) (high_code _)

/-- The mask bit of the even quad at position 0. -/
theorem bit00 : (res_main_v33 V0 : S640x14336.Idx → BitVec 1) (ix2 t n) = BitVec.ofBool ((half (masks V0 (ix2 t n)) 0).getLsbD 0) := by
  unfold res_main_v33 res_main_v21
  clean_types
  pointwise
  exact mask_bit 0 0 _

/-- The mask bit of the even quad at position 1. -/
theorem bit01 : (res_main_v47 V0 : S640x14336.Idx → BitVec 1) (ix2 t n) = BitVec.ofBool ((half (masks V0 (ix2 t n)) 0).getLsbD 1) := by
  unfold res_main_v47 res_main_v21
  clean_types
  pointwise
  exact mask_bit 0 1 _

/-- The mask bit of the even quad at position 2. -/
theorem bit02 : (res_main_v62 V0 : S640x14336.Idx → BitVec 1) (ix2 t n) = BitVec.ofBool ((half (masks V0 (ix2 t n)) 0).getLsbD 2) := by
  unfold res_main_v62 res_main_v21
  clean_types
  pointwise
  exact mask_bit 0 2 _

/-- The mask bit of the even quad at position 3. -/
theorem bit03 : (res_main_v77 V0 : S640x14336.Idx → BitVec 1) (ix2 t n) = BitVec.ofBool ((half (masks V0 (ix2 t n)) 0).getLsbD 3) := by
  unfold res_main_v77 res_main_v21
  clean_types
  pointwise
  exact mask_bit 0 3 _

/-- The mask bit of the odd quad at position 0. -/
theorem bit10 : (res_main_v97 V0 : S640x14336.Idx → BitVec 1) (ix2 t n) = BitVec.ofBool ((half (masks V0 (ix2 t n)) 1).getLsbD 0) := by
  unfold res_main_v97 res_main_v21
  clean_types
  pointwise
  exact mask_bit 1 0 _

/-- The mask bit of the odd quad at position 1. -/
theorem bit11 : (res_main_v112 V0 : S640x14336.Idx → BitVec 1) (ix2 t n) = BitVec.ofBool ((half (masks V0 (ix2 t n)) 1).getLsbD 1) := by
  unfold res_main_v112 res_main_v21
  clean_types
  pointwise
  exact mask_bit 1 1 _

/-- The mask bit of the odd quad at position 2. -/
theorem bit12 : (res_main_v127 V0 : S640x14336.Idx → BitVec 1) (ix2 t n) = BitVec.ofBool ((half (masks V0 (ix2 t n)) 1).getLsbD 2) := by
  unfold res_main_v127 res_main_v21
  clean_types
  pointwise
  exact mask_bit 1 2 _

/-- The mask bit of the odd quad at position 3. -/
theorem bit13 : (res_main_v142 V0 : S640x14336.Idx → BitVec 1) (ix2 t n) = BitVec.ofBool ((half (masks V0 (ix2 t n)) 1).getLsbD 3) := by
  unfold res_main_v142 res_main_v21
  clean_types
  pointwise
  exact mask_bit 1 3 _

/-- The or of two bits. -/
theorem ori_bits (a b : Bool) : IntOp.ori (BitVec.ofBool a) (BitVec.ofBool b) = BitVec.ofBool (a || b) := by
  cases a <;> cases b <;> rfl

/-- Whether a position below 0 of the even quad is kept. -/
theorem below00 : (res_main_v27 V0 : S640x14336.Idx → BitVec 1) (ix2 t n) = BitVec.ofBool (below (half (masks V0 (ix2 t n)) 0) 0) := by
  rfl

/-- Whether a position below 1 of the even quad is kept. -/
theorem below01 : (res_main_v41 V0 : S640x14336.Idx → BitVec 1) (ix2 t n) = BitVec.ofBool (below (half (masks V0 (ix2 t n)) 0) 1) := by
  refine Eq.trans (congrArg₂ IntOp.ori (below00 V0 t n) (bit00 V0 t n)) ?_
  rw [ori_bits]
  rfl

/-- Whether a position below 2 of the even quad is kept. -/
theorem below02 : (res_main_v56 V0 : S640x14336.Idx → BitVec 1) (ix2 t n) = BitVec.ofBool (below (half (masks V0 (ix2 t n)) 0) 2) := by
  refine Eq.trans (congrArg₂ IntOp.ori (below01 V0 t n) (bit01 V0 t n)) ?_
  rw [ori_bits]
  rfl

/-- Whether a position below 3 of the even quad is kept. -/
theorem below03 : (res_main_v71 V0 : S640x14336.Idx → BitVec 1) (ix2 t n) = BitVec.ofBool (below (half (masks V0 (ix2 t n)) 0) 3) := by
  refine Eq.trans (congrArg₂ IntOp.ori (below02 V0 t n) (bit02 V0 t n)) ?_
  rw [ori_bits]
  rfl

/-- Whether a position below 0 of the odd quad is kept. -/
theorem below10 : (res_main_v91 V0 : S640x14336.Idx → BitVec 1) (ix2 t n) = BitVec.ofBool (below (half (masks V0 (ix2 t n)) 1) 0) := by
  rfl

/-- Whether a position below 1 of the odd quad is kept. -/
theorem below11 : (res_main_v106 V0 : S640x14336.Idx → BitVec 1) (ix2 t n) = BitVec.ofBool (below (half (masks V0 (ix2 t n)) 1) 1) := by
  refine Eq.trans (congrArg₂ IntOp.ori (below10 V0 t n) (bit10 V0 t n)) ?_
  rw [ori_bits]
  rfl

/-- Whether a position below 2 of the odd quad is kept. -/
theorem below12 : (res_main_v121 V0 : S640x14336.Idx → BitVec 1) (ix2 t n) = BitVec.ofBool (below (half (masks V0 (ix2 t n)) 1) 2) := by
  refine Eq.trans (congrArg₂ IntOp.ori (below11 V0 t n) (bit11 V0 t n)) ?_
  rw [ori_bits]
  rfl

/-- Whether a position below 3 of the odd quad is kept. -/
theorem below13 : (res_main_v136 V0 : S640x14336.Idx → BitVec 1) (ix2 t n) = BitVec.ofBool (below (half (masks V0 (ix2 t n)) 1) 3) := by
  refine Eq.trans (congrArg₂ IntOp.ori (below12 V0 t n) (bit12 V0 t n)) ?_
  rw [ori_bits]
  rfl

/-- One of the reference's eight products, as a sum of the common terms. -/
theorem dot (h : Fin 2) (p : Fin 4) (b : Fin 48) (k l : Fin 640 → BitVec 1) (c0 c1 : Fin 640 → EReal) (col : Fin 640 → Fin 5120)
    (hcol : ∀ t, (col t).val = 8 * t.val + 4 * h.val + p.val)
    (hk : ∀ t, k t = BitVec.ofBool ((half (masks V0 (ix2 t n)) h).getLsbD p))
    (hl : ∀ t, l t = BitVec.ofBool (below (half (masks V0 (ix2 t n)) h) p))
    (h0 : ∀ t, c0 t = code (half (vals V0 (ix2 (⟨2 * t.val + h.val, by omega⟩ : Fin 1280) n)) 0) * scales V0 (ix2 (⟨t.val / 16, by omega⟩ : Fin 40) n))
    (h1 : ∀ t, c1 t = code (half (vals V0 (ix2 (⟨2 * t.val + h.val, by omega⟩ : Fin 1280) n)) 1) * scales V0 (ix2 (⟨t.val / 16, by omega⟩ : Fin 40) n)) :
    ∑ t, Scalar.select (~~~k t) 0 (cols V0 (ix3 b 0 (col t)) * Scalar.select (~~~l t) (c0 t) (c1 t))
      = ∑ t : Fin 640, term (cols V0) (vals V0) (masks V0) (scales V0) b n ⟨2 * t.val + h.val, by omega⟩ p := by
  refine Finset.sum_congr rfl fun t _ => ?_
  rw [pick _ _ _ _ _ _ _ _ p (hk t) (hl t) (h0 t) (h1 t)]
  have eh : (2 * t.val + h.val) / 2 = t.val := by omega
  have em : (2 * t.val + h.val) % 2 = h.val := by omega
  have es : (2 * t.val + h.val) / 32 = t.val / 16 := by omega
  have ec : col t = ⟨4 * (2 * t.val + h.val) + p.val, by omega⟩ := Fin.ext (by rw [hcol]; simp only; omega)
  unfold term weight
  simp only [eh, em, es, ec]

/-- THE REFERENCE'S RESULT at an index: the product of `x` with the decoded weights. -/
theorem result_apply (b : Fin 48) :
    (val4 V0 (Proc.devRef .tc main_v152) : S48x14336.Idx → EReal) (ix2 b n)
      = product (cols V0) (vals V0) (masks V0) (scales V0) b n := by
  rw [val4_main_v152, product_halves]
  clean_types
  unfold res_main_v22
  clean_types
  pointwise
  simp only [Fin.sum_univ_two, Fin.sum_univ_four, ← add_assoc]
  have d00 := dot V0 n 0 0 b (fun t => res_main_v33 V0 (ix2 t n)) (fun t => res_main_v27 V0 (ix2 t n))
    (fun t => res_main_v24 V0 (ix2 t n)) (fun t => res_main_v26 V0 (ix2 t n)) (fun t => ⟨t.val * 8, by omega⟩) (fun t => by simp; omega)
    (fun t => bit00 V0 t n) (fun t => below00 V0 t n) (fun t => code0_even V0 t n) (fun t => code1_even V0 t n)
  have d01 := dot V0 n 0 1 b (fun t => res_main_v47 V0 (ix2 t n)) (fun t => res_main_v41 V0 (ix2 t n))
    (fun t => res_main_v24 V0 (ix2 t n)) (fun t => res_main_v26 V0 (ix2 t n)) (fun t => ⟨t.val * 8 + 1, by omega⟩) (fun t => by simp; omega)
    (fun t => bit01 V0 t n) (fun t => below01 V0 t n) (fun t => code0_even V0 t n) (fun t => code1_even V0 t n)
  have d02 := dot V0 n 0 2 b (fun t => res_main_v62 V0 (ix2 t n)) (fun t => res_main_v56 V0 (ix2 t n))
    (fun t => res_main_v24 V0 (ix2 t n)) (fun t => res_main_v26 V0 (ix2 t n)) (fun t => ⟨t.val * 8 + 2, by omega⟩) (fun t => by simp; omega)
    (fun t => bit02 V0 t n) (fun t => below02 V0 t n) (fun t => code0_even V0 t n) (fun t => code1_even V0 t n)
  have d03 := dot V0 n 0 3 b (fun t => res_main_v77 V0 (ix2 t n)) (fun t => res_main_v71 V0 (ix2 t n))
    (fun t => res_main_v24 V0 (ix2 t n)) (fun t => res_main_v26 V0 (ix2 t n)) (fun t => ⟨t.val * 8 + 3, by omega⟩) (fun t => by simp; omega)
    (fun t => bit03 V0 t n) (fun t => below03 V0 t n) (fun t => code0_even V0 t n) (fun t => code1_even V0 t n)
  have d10 := dot V0 n 1 0 b (fun t => res_main_v97 V0 (ix2 t n)) (fun t => res_main_v91 V0 (ix2 t n))
    (fun t => res_main_v88 V0 (ix2 t n)) (fun t => res_main_v90 V0 (ix2 t n)) (fun t => ⟨t.val * 8 + 4, by omega⟩) (fun t => by simp; omega)
    (fun t => bit10 V0 t n) (fun t => below10 V0 t n) (fun t => code0_odd V0 t n) (fun t => code1_odd V0 t n)
  have d11 := dot V0 n 1 1 b (fun t => res_main_v112 V0 (ix2 t n)) (fun t => res_main_v106 V0 (ix2 t n))
    (fun t => res_main_v88 V0 (ix2 t n)) (fun t => res_main_v90 V0 (ix2 t n)) (fun t => ⟨t.val * 8 + 4 + 1, by omega⟩) (fun t => by simp; omega)
    (fun t => bit11 V0 t n) (fun t => below11 V0 t n) (fun t => code0_odd V0 t n) (fun t => code1_odd V0 t n)
  have d12 := dot V0 n 1 2 b (fun t => res_main_v127 V0 (ix2 t n)) (fun t => res_main_v121 V0 (ix2 t n))
    (fun t => res_main_v88 V0 (ix2 t n)) (fun t => res_main_v90 V0 (ix2 t n)) (fun t => ⟨t.val * 8 + 4 + 2, by omega⟩) (fun t => by simp; omega)
    (fun t => bit12 V0 t n) (fun t => below12 V0 t n) (fun t => code0_odd V0 t n) (fun t => code1_odd V0 t n)
  have d13 := dot V0 n 1 3 b (fun t => res_main_v142 V0 (ix2 t n)) (fun t => res_main_v136 V0 (ix2 t n))
    (fun t => res_main_v88 V0 (ix2 t n)) (fun t => res_main_v90 V0 (ix2 t n)) (fun t => ⟨t.val * 8 + 4 + 3, by omega⟩) (fun t => by simp; omega)
    (fun t => bit13 V0 t n) (fun t => below13 V0 t n) (fun t => code0_odd V0 t n) (fun t => code1_odd V0 t n)
  rw [← d00, ← d01, ← d02, ← d03, ← d10, ← d11, ← d12, ← d13]

open Idealize.ShloMosaic.TcCoe Idealize.SL.Sem Idealize.ShloMosaic.StableHlo in
/-- The reference's run: the result is the product of its arguments, and the arguments are unchanged. -/
theorem run_product (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v152) = (fun i : S48x14336.Idx => product (m ((c.tc : Thread nD τ).loc main_arg0))
          (m ((c.tc : Thread nD τ).loc main_arg1)) (m ((c.tc : Thread nD τ).loc main_arg2)) (m ((c.tc : Thread nD τ).loc main_arg3)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run _ _ _).mono (fun r h c => ⟨((h c).1.trans (val4_main_v152 (launchContents m c)).symm).trans ?_, (h c).2⟩) (run m ρ)
  refine funext fun i => ?_
  have ei : i = ix2 (i 0 : Fin 48) (i 1 : Fin 14336) := by funext a; fin_cases a <;> rfl
  exact (congrArg (val4 (launchContents m c) (Proc.devRef .tc main_v152) : S48x14336.Idx → EReal) ei).trans
    (result_apply (launchContents m c) (i 1) (i 0))

end Cert.ReferenceIdeal.Tie

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.KernelIdeal.Value
public import proofs.«01_k».proof.Proof.Gen.Pre_two_of_four
public import proofs.«01_k».proof.Proof.Result
public import proofs.«01_k».proof.Proof.Mask
public import proofs.«01_k».proof.Proof.Reference
public import Idealize.ShloMosaic.Lib.Bf16Pair
public import Idealize.ShloMosaic.Adequacy
public import Idealize.ShloMosaic.Init

@[expose] public section

noncomputable section

namespace Cert.Proof

open Idealize.ShloMosaic Idealize.SL.Sem Cert.Kernel

/-- The idealized kernel and the reference leave the same result: the product of the arguments. -/
theorem algebraic : algebraic_KernelIdeal_ReferenceIdeal_pre_two_of_four (hKernelIdeal := Cert.KernelIdeal.Gen.facts)
    (hReferenceIdeal := Cert.ReferenceIdeal.Gen.facts) (hPre_two_of_four := Cert.Pre_two_of_four.Gen.facts) := by
  intro m g m' g' hpre hargs
  refine ⟨fun c => fun i : Cert.KernelIdeal.S48x14336.Idx => Cert.Product.product (Cert.KernelIdeal.Steps.argX m c)
    (Cert.KernelIdeal.Steps.argV m c) (Cert.KernelIdeal.Steps.argM m c) (Cert.KernelIdeal.Steps.argS m c) (i 0) (i 1), ?_, ?_⟩
  · refine (θ_run _ _ _).mono (fun r h c => ⟨(h c).1.trans ?_, (h c).2⟩) (Cert.KernelIdeal.Value.run_blocks m g)
    exact Cert.KernelIdeal.Steps.result_eq m c (Cert.Pre_two_of_four.twoOfFour _ _ _ _ (hpre c))
  · refine (θ_run _ _ _).mono (fun r h c => ⟨(h c).1.trans ?_, (h c).2⟩) (Cert.ReferenceIdeal.Tie.run_product m' g')
    obtain ⟨h0, h1, h2, h3⟩ := hargs c
    rw [h0, h1, h2, h3]

/-- The reference runs, leaves its arguments unchanged, and declares no semaphore. -/
theorem referenceFrame : quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- All the claims. -/
theorem claim : Cert.Claim := ⟨Cert.Kernel.Gen.facts, Cert.KernelIdeal.Gen.facts, Cert.ReferenceIdeal.Gen.facts, Cert.Pre_two_of_four.Gen.facts,
  fun m g _ => Cert.Kernel.Gen.frame m g,
  fun m g _ => Cert.KernelIdeal.Gen.frame m g,
  fun m g _ => Cert.KernelIdeal.Gen.frame m g,
  referenceFrame,
  fun m g _ => referenceFrame m g trivial,
  ⟨IdealRules.bf16_pair.statement _ _, IdealRules.bf16_pair.statement _ _⟩,
  algebraic⟩

end Cert.Proof

end
